-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S2x512x1024 : Shape := ⟨3, ![2, 512, 1024]⟩
abbrev S2 : Shape := ⟨1, ![2]⟩
abbrev S4 : Shape := ⟨1, ![4]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S512x4096, .f32⟩
  | .local _ .vmem, ⟨0, _⟩ => ⟨S8192x512, .bf16⟩
  | .local _ .vmem, ⟨1, _⟩ => ⟨S512x4096, .bf16⟩
  | .local _ .vmem, ⟨2, _⟩ => ⟨S512x4096, .f32⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_84 : BitVec 32 := 1#32
  let v99 : BitVec 32 := Scalar.muli v97 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_87 : BitVec 32 := 1#32
  let v101 : BitVec 32 := Scalar.muli v64 c1_i32_87
  let v102 : BitVec 32 := Scalar.addi c0_i32_88 v101
  v102.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c512_i32 : BitVec 32 := 512#32
  let v103 : BitVec 32 := Scalar.muli v97 c512_i32
  let v104 : Index := Scalar.indexCast v103
  let c0 : Index := 0#32
  ![v104.toNat, 0]
def k0_dev3 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_99 : BitVec 32 := 1#32
  let v114 : BitVec 32 := Scalar.muli v64 c1_i32_99
  let v115 : BitVec 32 := Scalar.addi c0_i32_100 v114
  v115.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c512_i32_105 : BitVec 32 := 512#32
  let v124 : BitVec 32 := Scalar.muli v64 c512_i32_105
  let v125 : Index := Scalar.indexCast v124
  let c0_106 : Index := 0#32
  ![v125.toNat, 0]
def k0_dev4 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_116 : BitVec 32 := 1#32
  let v135 : BitVec 32 := Scalar.muli v97 c1_i32_116
  let v136 : BitVec 32 := Scalar.addi c0_i32_117 v135
  v136.toNat
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_133 : BitVec 32 := 1#32
  let v156 : BitVec 32 := Scalar.muli v64 c1_i32_133
  let v157 : BitVec 32 := Scalar.addi c0_i32_134 v156
  v157.toNat
def k0_dev6 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_150 : BitVec 32 := 1#32
  let v177 : BitVec 32 := Scalar.muli v97 c1_i32_150
  let v178 : BitVec 32 := Scalar.addi c0_i32_151 v177
  v178.toNat
def k0_off3 (d0 : Dev nD) (c0_i32_157 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c2_i32_156 : BitVec 32 := 2#32
  let v187 : BitVec 32 := Scalar.subi v32 c2_i32_156
  let v188 : BitVec 32 := Scalar.subi v187 c0_i32_157
  let c32_i32 : BitVec 32 := 32#32
  let v189 : BitVec 32 := Scalar.addi v188 c32_i32
  let c16_i32_158 : BitVec 32 := 16#32
  let v190 : BitVec 32 := Scalar.remsi v189 c16_i32_158
  let c15_i32_188 : BitVec 32 := 15#32
  let v219 : BitVec 1 := Scalar.cmpi .eq v190 c15_i32_188
  let c1_i32_189 : BitVec 32 := 1#32
  let c14_i32_186 : BitVec 32 := 14#32
  let v217 : BitVec 1 := Scalar.cmpi .eq v190 c14_i32_186
  let c2_i32_187 : BitVec 32 := 2#32
  let c13_i32_184 : BitVec 32 := 13#32
  let v215 : BitVec 1 := Scalar.cmpi .eq v190 c13_i32_184
  let c6_i32_185 : BitVec 32 := 6#32
  let c12_i32_182 : BitVec 32 := 12#32
  let v213 : BitVec 1 := Scalar.cmpi .eq v190 c12_i32_182
  let c5_i32_183 : BitVec 32 := 5#32
  let c11_i32_180 : BitVec 32 := 11#32
  let v211 : BitVec 1 := Scalar.cmpi .eq v190 c11_i32_180
  let c9_i32_181 : BitVec 32 := 9#32
  let c10_i32_178 : BitVec 32 := 10#32
  let v209 : BitVec 1 := Scalar.cmpi .eq v190 c10_i32_178
  let c10_i32_179 : BitVec 32 := 10#32
  let c9_i32_176 : BitVec 32 := 9#32
  let v207 : BitVec 1 := Scalar.cmpi .eq v190 c9_i32_176
  let c14_i32_177 : BitVec 32 := 14#32
  let c8_i32_174 : BitVec 32 := 8#32
  let v205 : BitVec 1 := Scalar.cmpi .eq v190 c8_i32_174
  let c13_i32_175 : BitVec 32 := 13#32
  let c7_i32_172 : BitVec 32 := 7#32
  let v203 : BitVec 1 := Scalar.cmpi .eq v190 c7_i32_172
  let c12_i32_173 : BitVec 32 := 12#32
  let c6_i32_170 : BitVec 32 := 6#32
  let v201 : BitVec 1 := Scalar.cmpi .eq v190 c6_i32_170
  let c15_i32_171 : BitVec 32 := 15#32
  let c5_i32_168 : BitVec 32 := 5#32
  let v199 : BitVec 1 := Scalar.cmpi .eq v190 c5_i32_168
  let c11_i32_169 : BitVec 32 := 11#32
  let c4_i32_166 : BitVec 32 := 4#32
  let v197 : BitVec 1 := Scalar.cmpi .eq v190 c4_i32_166
  let c8_i32_167 : BitVec 32 := 8#32
  let c3_i32_164 : BitVec 32 := 3#32
  let v195 : BitVec 1 := Scalar.cmpi .eq v190 c3_i32_164
  let c4_i32_165 : BitVec 32 := 4#32
  let c2_i32_162 : BitVec 32 := 2#32
  let v193 : BitVec 1 := Scalar.cmpi .eq v190 c2_i32_162
  let c7_i32_163 : BitVec 32 := 7#32
  let c1_i32_159 : BitVec 32 := 1#32
  let v191 : BitVec 1 := Scalar.cmpi .eq v190 c1_i32_159
  let c3_i32_160 : BitVec 32 := 3#32
  let c0_i32_161 : BitVec 32 := 0#32
  let v192 : BitVec 32 := Scalar.select v191 c3_i32_160 c0_i32_161
  let v194 : BitVec 32 := Scalar.select v193 c7_i32_163 v192
  let v196 : BitVec 32 := Scalar.select v195 c4_i32_165 v194
  let v198 : BitVec 32 := Scalar.select v197 c8_i32_167 v196
  let v200 : BitVec 32 := Scalar.select v199 c11_i32_169 v198
  let v202 : BitVec 32 := Scalar.select v201 c15_i32_171 v200
  let v204 : BitVec 32 := Scalar.select v203 c12_i32_173 v202
  let v206 : BitVec 32 := Scalar.select v205 c13_i32_175 v204
  let v208 : BitVec 32 := Scalar.select v207 c14_i32_177 v206
  let v210 : BitVec 32 := Scalar.select v209 c10_i32_179 v208
  let v212 : BitVec 32 := Scalar.select v211 c9_i32_181 v210
  let v214 : BitVec 32 := Scalar.select v213 c5_i32_183 v212
  let v216 : BitVec 32 := Scalar.select v215 c6_i32_185 v214
  let v218 : BitVec 32 := Scalar.select v217 c2_i32_187 v216
  let v220 : BitVec 32 := Scalar.select v219 c1_i32_189 v218
  let c512_i32_190 : BitVec 32 := 512#32
  let v221 : BitVec 32 := Scalar.muli v220 c512_i32_190
  let v222 : Index := Scalar.indexCast v221
  let c0_191 : Index := 0#32
  ![v222.toNat, 0]
def k0_off4 (d0 : Dev nD) (c0_i32_196 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c2_i32_195 : BitVec 32 := 2#32
  let v228 : BitVec 32 := Scalar.addi v32 c2_i32_195
  let v229 : BitVec 32 := Scalar.addi v228 c0_i32_196
  let c16_i32_197 : BitVec 32 := 16#32
  let v230 : BitVec 32 := Scalar.remsi v229 c16_i32_197
  let c15_i32_227 : BitVec 32 := 15#32
  let v259 : BitVec 1 := Scalar.cmpi .eq v230 c15_i32_227
  let c1_i32_228 : BitVec 32 := 1#32
  let c14_i32_225 : BitVec 32 := 14#32
  let v257 : BitVec 1 := Scalar.cmpi .eq v230 c14_i32_225
  let c2_i32_226 : BitVec 32 := 2#32
  let c13_i32_223 : BitVec 32 := 13#32
  let v255 : BitVec 1 := Scalar.cmpi .eq v230 c13_i32_223
  let c6_i32_224 : BitVec 32 := 6#32
  let c12_i32_221 : BitVec 32 := 12#32
  let v253 : BitVec 1 := Scalar.cmpi .eq v230 c12_i32_221
  let c5_i32_222 : BitVec 32 := 5#32
  let c11_i32_219 : BitVec 32 := 11#32
  let v251 : BitVec 1 := Scalar.cmpi .eq v230 c11_i32_219
  let c9_i32_220 : BitVec 32 := 9#32
  let c10_i32_217 : BitVec 32 := 10#32
  let v249 : BitVec 1 := Scalar.cmpi .eq v230 c10_i32_217
  let c10_i32_218 : BitVec 32 := 10#32
  let c9_i32_215 : BitVec 32 := 9#32
  let v247 : BitVec 1 := Scalar.cmpi .eq v230 c9_i32_215
  let c14_i32_216 : BitVec 32 := 14#32
  let c8_i32_213 : BitVec 32 := 8#32
  let v245 : BitVec 1 := Scalar.cmpi .eq v230 c8_i32_213
  let c13_i32_214 : BitVec 32 := 13#32
  let c7_i32_211 : BitVec 32 := 7#32
  let v243 : BitVec 1 := Scalar.cmpi .eq v230 c7_i32_211
  let c12_i32_212 : BitVec 32 := 12#32
  let c6_i32_209 : BitVec 32 := 6#32
  let v241 : BitVec 1 := Scalar.cmpi .eq v230 c6_i32_209
  let c15_i32_210 : BitVec 32 := 15#32
  let c5_i32_207 : BitVec 32 := 5#32
  let v239 : BitVec 1 := Scalar.cmpi .eq v230 c5_i32_207
  let c11_i32_208 : BitVec 32 := 11#32
  let c4_i32_205 : BitVec 32 := 4#32
  let v237 : BitVec 1 := Scalar.cmpi .eq v230 c4_i32_205
  let c8_i32_206 : BitVec 32 := 8#32
  let c3_i32_203 : BitVec 32 := 3#32
  let v235 : BitVec 1 := Scalar.cmpi .eq v230 c3_i32_203
  let c4_i32_204 : BitVec 32 := 4#32
  let c2_i32_201 : BitVec 32 := 2#32
  let v233 : BitVec 1 := Scalar.cmpi .eq v230 c2_i32_201
  let c7_i32_202 : BitVec 32 := 7#32
  let c1_i32_198 : BitVec 32 := 1#32
  let v231 : BitVec 1 := Scalar.cmpi .eq v230 c1_i32_198
  let c3_i32_199 : BitVec 32 := 3#32
  let c0_i32_200 : BitVec 32 := 0#32
  let v232 : BitVec 32 := Scalar.select v231 c3_i32_199 c0_i32_200
  let v234 : BitVec 32 := Scalar.select v233 c7_i32_202 v232
  let v236 : BitVec 32 := Scalar.select v235 c4_i32_204 v234
  let v238 : BitVec 32 := Scalar.select v237 c8_i32_206 v236
  let v240 : BitVec 32 := Scalar.select v239 c11_i32_208 v238
  let v242 : BitVec 32 := Scalar.select v241 c15_i32_210 v240
  let v244 : BitVec 32 := Scalar.select v243 c12_i32_212 v242
  let v246 : BitVec 32 := Scalar.select v245 c13_i32_214 v244
  let v248 : BitVec 32 := Scalar.select v247 c14_i32_216 v246
  let v250 : BitVec 32 := Scalar.select v249 c10_i32_218 v248
  let v252 : BitVec 32 := Scalar.select v251 c9_i32_220 v250
  let v254 : BitVec 32 := Scalar.select v253 c5_i32_222 v252
  let v256 : BitVec 32 := Scalar.select v255 c6_i32_224 v254
  let v258 : BitVec 32 := Scalar.select v257 c2_i32_226 v256
  let v260 : BitVec 32 := Scalar.select v259 c1_i32_228 v258
  let c512_i32_229 : BitVec 32 := 512#32
  let v261 : BitVec 32 := Scalar.muli v260 c512_i32_229
  let v262 : Index := Scalar.indexCast v261
  let c0_230 : Index := 0#32
  ![v262.toNat, 0]
def k0_dev7 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_334 : BitVec 32 := 1#32
  let v365 : BitVec 32 := Scalar.muli v97 c1_i32_334
  let v366 : BitVec 32 := Scalar.addi c0_i32_335 v365
  v366.toNat
def k0_dev8 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_348 : BitVec 32 := 1#32
  let v377 : BitVec 32 := Scalar.muli v64 c1_i32_348
  let v378 : BitVec 32 := Scalar.addi c0_i32_349 v377
  v378.toNat
def k0_dev9 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_375 : BitVec 32 := 1#32
  let v403 : BitVec 32 := Scalar.muli v64 c1_i32_375
  let v404 : BitVec 32 := Scalar.addi c0_i32_376 v403
  v404.toNat
def k0_dev10 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_390 : BitVec 32 := 1#32
  let v415 : BitVec 32 := Scalar.muli v97 c1_i32_390
  let v416 : BitVec 32 := Scalar.addi c0_i32_391 v415
  v416.toNat
def k0_dev11 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_417 : BitVec 32 := 1#32
  let v441 : BitVec 32 := Scalar.muli v97 c1_i32_417
  let v442 : BitVec 32 := Scalar.addi c0_i32_418 v441
  v442.toNat
def k0_dev12 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_432 : BitVec 32 := 1#32
  let v453 : BitVec 32 := Scalar.muli v64 c1_i32_432
  let v454 : BitVec 32 := Scalar.addi c0_i32_433 v453
  v454.toNat
def k0_dev13 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_459 : BitVec 32 := 1#32
  let v479 : BitVec 32 := Scalar.muli v64 c1_i32_459
  let v480 : BitVec 32 := Scalar.addi c0_i32_460 v479
  v480.toNat
def k0_dev14 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_474 : BitVec 32 := 1#32
  let v491 : BitVec 32 := Scalar.muli v97 c1_i32_474
  let v492 : BitVec 32 := Scalar.addi c0_i32_475 v491
  v492.toNat
def k0_dev15 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_659 : BitVec 32 := 1#32
  let v679 : BitVec 32 := Scalar.muli v97 c1_i32_659
  let v680 : BitVec 32 := Scalar.addi c0_i32_660 v679
  v680.toNat
def k0_dev16 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_674 : BitVec 32 := 1#32
  let v691 : BitVec 32 := Scalar.muli v64 c1_i32_674
  let v692 : BitVec 32 := Scalar.addi c0_i32_675 v691
  v692.toNat
def k0_dev17 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_701 : BitVec 32 := 1#32
  let v717 : BitVec 32 := Scalar.muli v64 c1_i32_701
  let v718 : BitVec 32 := Scalar.addi c0_i32_702 v717
  v718.toNat
def k0_dev18 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_716 : BitVec 32 := 1#32
  let v729 : BitVec 32 := Scalar.muli v97 c1_i32_716
  let v730 : BitVec 32 := Scalar.addi c0_i32_717 v729
  v730.toNat
def k0_dev19 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_743 : BitVec 32 := 1#32
  let v755 : BitVec 32 := Scalar.muli v97 c1_i32_743
  let v756 : BitVec 32 := Scalar.addi c0_i32_744 v755
  v756.toNat
def k0_dev20 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_758 : BitVec 32 := 1#32
  let v767 : BitVec 32 := Scalar.muli v64 c1_i32_758
  let v768 : BitVec 32 := Scalar.addi c0_i32_759 v767
  v768.toNat
def k0_dev21 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_785 : BitVec 32 := 1#32
  let v793 : BitVec 32 := Scalar.muli v64 c1_i32_785
  let v794 : BitVec 32 := Scalar.addi c0_i32_786 v793
  v794.toNat
def k0_dev22 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_800 : BitVec 32 := 1#32
  let v805 : BitVec 32 := Scalar.muli v97 c1_i32_800
  let v806 : BitVec 32 := Scalar.addi c0_i32_801 v805
  v806.toNat
def k0_dev23 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_985 : BitVec 32 := 1#32
  let v993 : BitVec 32 := Scalar.muli v97 c1_i32_985
  let v994 : BitVec 32 := Scalar.addi c0_i32_986 v993
  v994.toNat
def k0_dev24 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1000 : BitVec 32 := 1#32
  let v1005 : BitVec 32 := Scalar.muli v64 c1_i32_1000
  let v1006 : BitVec 32 := Scalar.addi c0_i32_1001 v1005
  v1006.toNat
def k0_dev25 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1027 : BitVec 32 := 1#32
  let v1031 : BitVec 32 := Scalar.muli v64 c1_i32_1027
  let v1032 : BitVec 32 := Scalar.addi c0_i32_1028 v1031
  v1032.toNat
def k0_dev26 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1042 : BitVec 32 := 1#32
  let v1043 : BitVec 32 := Scalar.muli v97 c1_i32_1042
  let v1044 : BitVec 32 := Scalar.addi c0_i32_1043 v1043
  v1044.toNat
def k0_dev27 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1069 : BitVec 32 := 1#32
  let v1069 : BitVec 32 := Scalar.muli v97 c1_i32_1069
  let v1070 : BitVec 32 := Scalar.addi c0_i32_1070 v1069
  v1070.toNat
def k0_dev28 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1084 : BitVec 32 := 1#32
  let v1081 : BitVec 32 := Scalar.muli v64 c1_i32_1084
  let v1082 : BitVec 32 := Scalar.addi c0_i32_1085 v1081
  v1082.toNat
def k0_dev29 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1111 : BitVec 32 := 1#32
  let v1107 : BitVec 32 := Scalar.muli v64 c1_i32_1111
  let v1108 : BitVec 32 := Scalar.addi c0_i32_1112 v1107
  v1108.toNat
def k0_dev30 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1126 : BitVec 32 := 1#32
  let v1119 : BitVec 32 := Scalar.muli v97 c1_i32_1126
  let v1120 : BitVec 32 := Scalar.addi c0_i32_1127 v1119
  v1120.toNat
def k0_dev31 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1311 : BitVec 32 := 1#32
  let v1307 : BitVec 32 := Scalar.muli v97 c1_i32_1311
  let v1308 : BitVec 32 := Scalar.addi c0_i32_1312 v1307
  v1308.toNat
def k0_dev32 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1326 : BitVec 32 := 1#32
  let v1319 : BitVec 32 := Scalar.muli v64 c1_i32_1326
  let v1320 : BitVec 32 := Scalar.addi c0_i32_1327 v1319
  v1320.toNat
def k0_dev33 (d0 : Dev nD) : Nat :=
  let c0_i32_1354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1353 : BitVec 32 := 1#32
  let v1345 : BitVec 32 := Scalar.muli v64 c1_i32_1353
  let v1346 : BitVec 32 := Scalar.addi c0_i32_1354 v1345
  v1346.toNat
def k0_dev34 (d0 : Dev nD) : Nat :=
  let c0_i32_1369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1368 : BitVec 32 := 1#32
  let v1357 : BitVec 32 := Scalar.muli v97 c1_i32_1368
  let v1358 : BitVec 32 := Scalar.addi c0_i32_1369 v1357
  v1358.toNat
def k0_dev35 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1395 : BitVec 32 := 1#32
  let v1383 : BitVec 32 := Scalar.muli v97 c1_i32_1395
  let v1384 : BitVec 32 := Scalar.addi c0_i32_1396 v1383
  v1384.toNat
def k0_dev36 (d0 : Dev nD) : Nat :=
  let c0_i32_1411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1410 : BitVec 32 := 1#32
  let v1395 : BitVec 32 := Scalar.muli v64 c1_i32_1410
  let v1396 : BitVec 32 := Scalar.addi c0_i32_1411 v1395
  v1396.toNat
def k0_dev37 (d0 : Dev nD) : Nat :=
  let c0_i32_1438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1437 : BitVec 32 := 1#32
  let v1421 : BitVec 32 := Scalar.muli v64 c1_i32_1437
  let v1422 : BitVec 32 := Scalar.addi c0_i32_1438 v1421
  v1422.toNat
def k0_dev38 (d0 : Dev nD) : Nat :=
  let c0_i32_1453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1452 : BitVec 32 := 1#32
  let v1433 : BitVec 32 := Scalar.muli v97 c1_i32_1452
  let v1434 : BitVec 32 := Scalar.addi c0_i32_1453 v1433
  v1434.toNat
def k0_dev39 (d0 : Dev nD) : Nat :=
  let c0_i32_1638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1637 : BitVec 32 := 1#32
  let v1621 : BitVec 32 := Scalar.muli v97 c1_i32_1637
  let v1622 : BitVec 32 := Scalar.addi c0_i32_1638 v1621
  v1622.toNat
def k0_dev40 (d0 : Dev nD) : Nat :=
  let c0_i32_1653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1652 : BitVec 32 := 1#32
  let v1633 : BitVec 32 := Scalar.muli v64 c1_i32_1652
  let v1634 : BitVec 32 := Scalar.addi c0_i32_1653 v1633
  v1634.toNat
def k0_dev41 (d0 : Dev nD) : Nat :=
  let c0_i32_1680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1679 : BitVec 32 := 1#32
  let v1659 : BitVec 32 := Scalar.muli v64 c1_i32_1679
  let v1660 : BitVec 32 := Scalar.addi c0_i32_1680 v1659
  v1660.toNat
def k0_dev42 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1694 : BitVec 32 := 1#32
  let v1671 : BitVec 32 := Scalar.muli v97 c1_i32_1694
  let v1672 : BitVec 32 := Scalar.addi c0_i32_1695 v1671
  v1672.toNat
def k0_dev43 (d0 : Dev nD) : Nat :=
  let c0_i32_1722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1721 : BitVec 32 := 1#32
  let v1697 : BitVec 32 := Scalar.muli v97 c1_i32_1721
  let v1698 : BitVec 32 := Scalar.addi c0_i32_1722 v1697
  v1698.toNat
def k0_dev44 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1736 : BitVec 32 := 1#32
  let v1709 : BitVec 32 := Scalar.muli v64 c1_i32_1736
  let v1710 : BitVec 32 := Scalar.addi c0_i32_1737 v1709
  v1710.toNat
def k0_dev45 (d0 : Dev nD) : Nat :=
  let c0_i32_1764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1763 : BitVec 32 := 1#32
  let v1735 : BitVec 32 := Scalar.muli v64 c1_i32_1763
  let v1736 : BitVec 32 := Scalar.addi c0_i32_1764 v1735
  v1736.toNat
def k0_dev46 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1778 : BitVec 32 := 1#32
  let v1747 : BitVec 32 := Scalar.muli v97 c1_i32_1778
  let v1748 : BitVec 32 := Scalar.addi c0_i32_1779 v1747
  v1748.toNat
def k0_dev47 (d0 : Dev nD) : Nat :=
  let c0_i32_1964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_1963 : BitVec 32 := 1#32
  let v1935 : BitVec 32 := Scalar.muli v97 c1_i32_1963
  let v1936 : BitVec 32 := Scalar.addi c0_i32_1964 v1935
  v1936.toNat
def k0_dev48 (d0 : Dev nD) : Nat :=
  let c0_i32_1979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_1978 : BitVec 32 := 1#32
  let v1947 : BitVec 32 := Scalar.muli v64 c1_i32_1978
  let v1948 : BitVec 32 := Scalar.addi c0_i32_1979 v1947
  v1948.toNat
def k0_dev49 (d0 : Dev nD) : Nat :=
  let c0_i32_2006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2005 : BitVec 32 := 1#32
  let v1973 : BitVec 32 := Scalar.muli v64 c1_i32_2005
  let v1974 : BitVec 32 := Scalar.addi c0_i32_2006 v1973
  v1974.toNat
def k0_dev50 (d0 : Dev nD) : Nat :=
  let c0_i32_2021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2020 : BitVec 32 := 1#32
  let v1985 : BitVec 32 := Scalar.muli v97 c1_i32_2020
  let v1986 : BitVec 32 := Scalar.addi c0_i32_2021 v1985
  v1986.toNat
def k0_dev51 (d0 : Dev nD) : Nat :=
  let c0_i32_2048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2047 : BitVec 32 := 1#32
  let v2011 : BitVec 32 := Scalar.muli v97 c1_i32_2047
  let v2012 : BitVec 32 := Scalar.addi c0_i32_2048 v2011
  v2012.toNat
def k0_dev52 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2062 : BitVec 32 := 1#32
  let v2023 : BitVec 32 := Scalar.muli v64 c1_i32_2062
  let v2024 : BitVec 32 := Scalar.addi c0_i32_2063 v2023
  v2024.toNat
def k0_dev53 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2089 : BitVec 32 := 1#32
  let v2049 : BitVec 32 := Scalar.muli v64 c1_i32_2089
  let v2050 : BitVec 32 := Scalar.addi c0_i32_2090 v2049
  v2050.toNat
def k0_dev54 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2104 : BitVec 32 := 1#32
  let v2061 : BitVec 32 := Scalar.muli v97 c1_i32_2104
  let v2062 : BitVec 32 := Scalar.addi c0_i32_2105 v2061
  v2062.toNat
def k0_dev55 (d0 : Dev nD) : Nat :=
  let c0_i32_2290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2289 : BitVec 32 := 1#32
  let v2249 : BitVec 32 := Scalar.muli v97 c1_i32_2289
  let v2250 : BitVec 32 := Scalar.addi c0_i32_2290 v2249
  v2250.toNat
def k0_dev56 (d0 : Dev nD) : Nat :=
  let c0_i32_2305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2304 : BitVec 32 := 1#32
  let v2261 : BitVec 32 := Scalar.muli v64 c1_i32_2304
  let v2262 : BitVec 32 := Scalar.addi c0_i32_2305 v2261
  v2262.toNat
def k0_dev57 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2331 : BitVec 32 := 1#32
  let v2287 : BitVec 32 := Scalar.muli v64 c1_i32_2331
  let v2288 : BitVec 32 := Scalar.addi c0_i32_2332 v2287
  v2288.toNat
def k0_dev58 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2346 : BitVec 32 := 1#32
  let v2299 : BitVec 32 := Scalar.muli v97 c1_i32_2346
  let v2300 : BitVec 32 := Scalar.addi c0_i32_2347 v2299
  v2300.toNat
def k0_dev59 (d0 : Dev nD) : Nat :=
  let c0_i32_2374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2373 : BitVec 32 := 1#32
  let v2325 : BitVec 32 := Scalar.muli v97 c1_i32_2373
  let v2326 : BitVec 32 := Scalar.addi c0_i32_2374 v2325
  v2326.toNat
def k0_dev60 (d0 : Dev nD) : Nat :=
  let c0_i32_2389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2388 : BitVec 32 := 1#32
  let v2337 : BitVec 32 := Scalar.muli v64 c1_i32_2388
  let v2338 : BitVec 32 := Scalar.addi c0_i32_2389 v2337
  v2338.toNat
def k0_dev61 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2415 : BitVec 32 := 1#32
  let v2363 : BitVec 32 := Scalar.muli v64 c1_i32_2415
  let v2364 : BitVec 32 := Scalar.addi c0_i32_2416 v2363
  v2364.toNat
def k0_dev62 (d0 : Dev nD) : Nat :=
  let c0_i32_2431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2430 : BitVec 32 := 1#32
  let v2375 : BitVec 32 := Scalar.muli v97 c1_i32_2430
  let v2376 : BitVec 32 := Scalar.addi c0_i32_2431 v2375
  v2376.toNat
def k0_dev63 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2615 : BitVec 32 := 1#32
  let v2563 : BitVec 32 := Scalar.muli v97 c1_i32_2615
  let v2564 : BitVec 32 := Scalar.addi c0_i32_2616 v2563
  v2564.toNat
def k0_dev64 (d0 : Dev nD) : Nat :=
  let c0_i32_2631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2630 : BitVec 32 := 1#32
  let v2575 : BitVec 32 := Scalar.muli v64 c1_i32_2630
  let v2576 : BitVec 32 := Scalar.addi c0_i32_2631 v2575
  v2576.toNat
def k0_dev65 (d0 : Dev nD) : Nat :=
  let c0_i32_2658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2657 : BitVec 32 := 1#32
  let v2601 : BitVec 32 := Scalar.muli v64 c1_i32_2657
  let v2602 : BitVec 32 := Scalar.addi c0_i32_2658 v2601
  v2602.toNat
def k0_dev66 (d0 : Dev nD) : Nat :=
  let c0_i32_2673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2672 : BitVec 32 := 1#32
  let v2613 : BitVec 32 := Scalar.muli v97 c1_i32_2672
  let v2614 : BitVec 32 := Scalar.addi c0_i32_2673 v2613
  v2614.toNat
def k0_dev67 (d0 : Dev nD) : Nat :=
  let c0_i32_2700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2699 : BitVec 32 := 1#32
  let v2639 : BitVec 32 := Scalar.muli v97 c1_i32_2699
  let v2640 : BitVec 32 := Scalar.addi c0_i32_2700 v2639
  v2640.toNat
def k0_dev68 (d0 : Dev nD) : Nat :=
  let c0_i32_2715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2714 : BitVec 32 := 1#32
  let v2651 : BitVec 32 := Scalar.muli v64 c1_i32_2714
  let v2652 : BitVec 32 := Scalar.addi c0_i32_2715 v2651
  v2652.toNat
def k0_dev69 (d0 : Dev nD) : Nat :=
  let c0_i32_2742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2741 : BitVec 32 := 1#32
  let v2677 : BitVec 32 := Scalar.muli v64 c1_i32_2741
  let v2678 : BitVec 32 := Scalar.addi c0_i32_2742 v2677
  v2678.toNat
def k0_dev70 (d0 : Dev nD) : Nat :=
  let c0_i32_2757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2756 : BitVec 32 := 1#32
  let v2689 : BitVec 32 := Scalar.muli v97 c1_i32_2756
  let v2690 : BitVec 32 := Scalar.addi c0_i32_2757 v2689
  v2690.toNat
def k0_dev71 (d0 : Dev nD) : Nat :=
  let c0_i32_2942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2941 : BitVec 32 := 1#32
  let v2877 : BitVec 32 := Scalar.muli v97 c1_i32_2941
  let v2878 : BitVec 32 := Scalar.addi c0_i32_2942 v2877
  v2878.toNat
def k0_dev72 (d0 : Dev nD) : Nat :=
  let c0_i32_2957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2956 : BitVec 32 := 1#32
  let v2889 : BitVec 32 := Scalar.muli v64 c1_i32_2956
  let v2890 : BitVec 32 := Scalar.addi c0_i32_2957 v2889
  v2890.toNat
def k0_dev73 (d0 : Dev nD) : Nat :=
  let c0_i32_2984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_2983 : BitVec 32 := 1#32
  let v2915 : BitVec 32 := Scalar.muli v64 c1_i32_2983
  let v2916 : BitVec 32 := Scalar.addi c0_i32_2984 v2915
  v2916.toNat
def k0_dev74 (d0 : Dev nD) : Nat :=
  let c0_i32_2999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_2998 : BitVec 32 := 1#32
  let v2927 : BitVec 32 := Scalar.muli v97 c1_i32_2998
  let v2928 : BitVec 32 := Scalar.addi c0_i32_2999 v2927
  v2928.toNat
def k0_dev75 (d0 : Dev nD) : Nat :=
  let c0_i32_3026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3025 : BitVec 32 := 1#32
  let v2953 : BitVec 32 := Scalar.muli v97 c1_i32_3025
  let v2954 : BitVec 32 := Scalar.addi c0_i32_3026 v2953
  v2954.toNat
def k0_dev76 (d0 : Dev nD) : Nat :=
  let c0_i32_3041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3040 : BitVec 32 := 1#32
  let v2965 : BitVec 32 := Scalar.muli v64 c1_i32_3040
  let v2966 : BitVec 32 := Scalar.addi c0_i32_3041 v2965
  v2966.toNat
def k0_dev77 (d0 : Dev nD) : Nat :=
  let c0_i32_3068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3067 : BitVec 32 := 1#32
  let v2991 : BitVec 32 := Scalar.muli v64 c1_i32_3067
  let v2992 : BitVec 32 := Scalar.addi c0_i32_3068 v2991
  v2992.toNat
def k0_dev78 (d0 : Dev nD) : Nat :=
  let c0_i32_3083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3082 : BitVec 32 := 1#32
  let v3003 : BitVec 32 := Scalar.muli v97 c1_i32_3082
  let v3004 : BitVec 32 := Scalar.addi c0_i32_3083 v3003
  v3004.toNat
def k0_dev79 (d0 : Dev nD) : Nat :=
  let c0_i32_3268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3267 : BitVec 32 := 1#32
  let v3191 : BitVec 32 := Scalar.muli v97 c1_i32_3267
  let v3192 : BitVec 32 := Scalar.addi c0_i32_3268 v3191
  v3192.toNat
def k0_dev80 (d0 : Dev nD) : Nat :=
  let c0_i32_3283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3282 : BitVec 32 := 1#32
  let v3203 : BitVec 32 := Scalar.muli v64 c1_i32_3282
  let v3204 : BitVec 32 := Scalar.addi c0_i32_3283 v3203
  v3204.toNat
def k0_dev81 (d0 : Dev nD) : Nat :=
  let c0_i32_3310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3309 : BitVec 32 := 1#32
  let v3229 : BitVec 32 := Scalar.muli v64 c1_i32_3309
  let v3230 : BitVec 32 := Scalar.addi c0_i32_3310 v3229
  v3230.toNat
def k0_dev82 (d0 : Dev nD) : Nat :=
  let c0_i32_3325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3324 : BitVec 32 := 1#32
  let v3241 : BitVec 32 := Scalar.muli v97 c1_i32_3324
  let v3242 : BitVec 32 := Scalar.addi c0_i32_3325 v3241
  v3242.toNat
def k0_dev83 (d0 : Dev nD) : Nat :=
  let c0_i32_3352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3351 : BitVec 32 := 1#32
  let v3267 : BitVec 32 := Scalar.muli v97 c1_i32_3351
  let v3268 : BitVec 32 := Scalar.addi c0_i32_3352 v3267
  v3268.toNat
def k0_dev84 (d0 : Dev nD) : Nat :=
  let c0_i32_3367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3366 : BitVec 32 := 1#32
  let v3279 : BitVec 32 := Scalar.muli v64 c1_i32_3366
  let v3280 : BitVec 32 := Scalar.addi c0_i32_3367 v3279
  v3280.toNat
def k0_dev85 (d0 : Dev nD) : Nat :=
  let c0_i32_3394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3393 : BitVec 32 := 1#32
  let v3305 : BitVec 32 := Scalar.muli v64 c1_i32_3393
  let v3306 : BitVec 32 := Scalar.addi c0_i32_3394 v3305
  v3306.toNat
def k0_dev86 (d0 : Dev nD) : Nat :=
  let c0_i32_3409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3408 : BitVec 32 := 1#32
  let v3317 : BitVec 32 := Scalar.muli v97 c1_i32_3408
  let v3318 : BitVec 32 := Scalar.addi c0_i32_3409 v3317
  v3318.toNat
def k0_dev87 (d0 : Dev nD) : Nat :=
  let c0_i32_3594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3593 : BitVec 32 := 1#32
  let v3505 : BitVec 32 := Scalar.muli v97 c1_i32_3593
  let v3506 : BitVec 32 := Scalar.addi c0_i32_3594 v3505
  v3506.toNat
def k0_dev88 (d0 : Dev nD) : Nat :=
  let c0_i32_3609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3608 : BitVec 32 := 1#32
  let v3517 : BitVec 32 := Scalar.muli v64 c1_i32_3608
  let v3518 : BitVec 32 := Scalar.addi c0_i32_3609 v3517
  v3518.toNat
def k0_dev89 (d0 : Dev nD) : Nat :=
  let c0_i32_3636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3635 : BitVec 32 := 1#32
  let v3543 : BitVec 32 := Scalar.muli v64 c1_i32_3635
  let v3544 : BitVec 32 := Scalar.addi c0_i32_3636 v3543
  v3544.toNat
def k0_dev90 (d0 : Dev nD) : Nat :=
  let c0_i32_3651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3650 : BitVec 32 := 1#32
  let v3555 : BitVec 32 := Scalar.muli v97 c1_i32_3650
  let v3556 : BitVec 32 := Scalar.addi c0_i32_3651 v3555
  v3556.toNat
def k0_dev91 (d0 : Dev nD) : Nat :=
  let c0_i32_3678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3677 : BitVec 32 := 1#32
  let v3581 : BitVec 32 := Scalar.muli v97 c1_i32_3677
  let v3582 : BitVec 32 := Scalar.addi c0_i32_3678 v3581
  v3582.toNat
def k0_dev92 (d0 : Dev nD) : Nat :=
  let c0_i32_3693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3692 : BitVec 32 := 1#32
  let v3593 : BitVec 32 := Scalar.muli v64 c1_i32_3692
  let v3594 : BitVec 32 := Scalar.addi c0_i32_3693 v3593
  v3594.toNat
def k0_dev93 (d0 : Dev nD) : Nat :=
  let c0_i32_3720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3719 : BitVec 32 := 1#32
  let v3619 : BitVec 32 := Scalar.muli v64 c1_i32_3719
  let v3620 : BitVec 32 := Scalar.addi c0_i32_3720 v3619
  v3620.toNat
def k0_dev94 (d0 : Dev nD) : Nat :=
  let c0_i32_3735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3734 : BitVec 32 := 1#32
  let v3631 : BitVec 32 := Scalar.muli v97 c1_i32_3734
  let v3632 : BitVec 32 := Scalar.addi c0_i32_3735 v3631
  v3632.toNat
def k0_dev95 (d0 : Dev nD) : Nat :=
  let c0_i32_3920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3919 : BitVec 32 := 1#32
  let v3819 : BitVec 32 := Scalar.muli v97 c1_i32_3919
  let v3820 : BitVec 32 := Scalar.addi c0_i32_3920 v3819
  v3820.toNat
def k0_dev96 (d0 : Dev nD) : Nat :=
  let c0_i32_3935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3934 : BitVec 32 := 1#32
  let v3831 : BitVec 32 := Scalar.muli v64 c1_i32_3934
  let v3832 : BitVec 32 := Scalar.addi c0_i32_3935 v3831
  v3832.toNat
def k0_dev97 (d0 : Dev nD) : Nat :=
  let c0_i32_3962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_3961 : BitVec 32 := 1#32
  let v3857 : BitVec 32 := Scalar.muli v64 c1_i32_3961
  let v3858 : BitVec 32 := Scalar.addi c0_i32_3962 v3857
  v3858.toNat
def k0_dev98 (d0 : Dev nD) : Nat :=
  let c0_i32_3977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_3976 : BitVec 32 := 1#32
  let v3869 : BitVec 32 := Scalar.muli v97 c1_i32_3976
  let v3870 : BitVec 32 := Scalar.addi c0_i32_3977 v3869
  v3870.toNat
def k0_dev99 (d0 : Dev nD) : Nat :=
  let c0_i32_4004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4003 : BitVec 32 := 1#32
  let v3895 : BitVec 32 := Scalar.muli v97 c1_i32_4003
  let v3896 : BitVec 32 := Scalar.addi c0_i32_4004 v3895
  v3896.toNat
def k0_dev100 (d0 : Dev nD) : Nat :=
  let c0_i32_4019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4018 : BitVec 32 := 1#32
  let v3907 : BitVec 32 := Scalar.muli v64 c1_i32_4018
  let v3908 : BitVec 32 := Scalar.addi c0_i32_4019 v3907
  v3908.toNat
def k0_dev101 (d0 : Dev nD) : Nat :=
  let c0_i32_4046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4045 : BitVec 32 := 1#32
  let v3933 : BitVec 32 := Scalar.muli v64 c1_i32_4045
  let v3934 : BitVec 32 := Scalar.addi c0_i32_4046 v3933
  v3934.toNat
def k0_dev102 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4060 : BitVec 32 := 1#32
  let v3945 : BitVec 32 := Scalar.muli v97 c1_i32_4060
  let v3946 : BitVec 32 := Scalar.addi c0_i32_4061 v3945
  v3946.toNat
def k0_dev103 (d0 : Dev nD) : Nat :=
  let c0_i32_4246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4245 : BitVec 32 := 1#32
  let v4133 : BitVec 32 := Scalar.muli v97 c1_i32_4245
  let v4134 : BitVec 32 := Scalar.addi c0_i32_4246 v4133
  v4134.toNat
def k0_dev104 (d0 : Dev nD) : Nat :=
  let c0_i32_4261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4260 : BitVec 32 := 1#32
  let v4145 : BitVec 32 := Scalar.muli v64 c1_i32_4260
  let v4146 : BitVec 32 := Scalar.addi c0_i32_4261 v4145
  v4146.toNat
def k0_dev105 (d0 : Dev nD) : Nat :=
  let c0_i32_4288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4287 : BitVec 32 := 1#32
  let v4171 : BitVec 32 := Scalar.muli v64 c1_i32_4287
  let v4172 : BitVec 32 := Scalar.addi c0_i32_4288 v4171
  v4172.toNat
def k0_dev106 (d0 : Dev nD) : Nat :=
  let c0_i32_4303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4302 : BitVec 32 := 1#32
  let v4183 : BitVec 32 := Scalar.muli v97 c1_i32_4302
  let v4184 : BitVec 32 := Scalar.addi c0_i32_4303 v4183
  v4184.toNat
def k0_dev107 (d0 : Dev nD) : Nat :=
  let c0_i32_4330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4329 : BitVec 32 := 1#32
  let v4209 : BitVec 32 := Scalar.muli v97 c1_i32_4329
  let v4210 : BitVec 32 := Scalar.addi c0_i32_4330 v4209
  v4210.toNat
def k0_dev108 (d0 : Dev nD) : Nat :=
  let c0_i32_4345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4344 : BitVec 32 := 1#32
  let v4221 : BitVec 32 := Scalar.muli v64 c1_i32_4344
  let v4222 : BitVec 32 := Scalar.addi c0_i32_4345 v4221
  v4222.toNat
def k0_dev109 (d0 : Dev nD) : Nat :=
  let c0_i32_4372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4371 : BitVec 32 := 1#32
  let v4247 : BitVec 32 := Scalar.muli v64 c1_i32_4371
  let v4248 : BitVec 32 := Scalar.addi c0_i32_4372 v4247
  v4248.toNat
def k0_dev110 (d0 : Dev nD) : Nat :=
  let c0_i32_4387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4386 : BitVec 32 := 1#32
  let v4259 : BitVec 32 := Scalar.muli v97 c1_i32_4386
  let v4260 : BitVec 32 := Scalar.addi c0_i32_4387 v4259
  v4260.toNat
def k0_dev111 (d0 : Dev nD) : Nat :=
  let c0_i32_4572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4571 : BitVec 32 := 1#32
  let v4447 : BitVec 32 := Scalar.muli v97 c1_i32_4571
  let v4448 : BitVec 32 := Scalar.addi c0_i32_4572 v4447
  v4448.toNat
def k0_dev112 (d0 : Dev nD) : Nat :=
  let c0_i32_4587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4586 : BitVec 32 := 1#32
  let v4459 : BitVec 32 := Scalar.muli v64 c1_i32_4586
  let v4460 : BitVec 32 := Scalar.addi c0_i32_4587 v4459
  v4460.toNat
def k0_dev113 (d0 : Dev nD) : Nat :=
  let c0_i32_4614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4613 : BitVec 32 := 1#32
  let v4485 : BitVec 32 := Scalar.muli v64 c1_i32_4613
  let v4486 : BitVec 32 := Scalar.addi c0_i32_4614 v4485
  v4486.toNat
def k0_dev114 (d0 : Dev nD) : Nat :=
  let c0_i32_4629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4628 : BitVec 32 := 1#32
  let v4497 : BitVec 32 := Scalar.muli v97 c1_i32_4628
  let v4498 : BitVec 32 := Scalar.addi c0_i32_4629 v4497
  v4498.toNat
def k0_dev115 (d0 : Dev nD) : Nat :=
  let c0_i32_4656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4655 : BitVec 32 := 1#32
  let v4523 : BitVec 32 := Scalar.muli v97 c1_i32_4655
  let v4524 : BitVec 32 := Scalar.addi c0_i32_4656 v4523
  v4524.toNat
def k0_dev116 (d0 : Dev nD) : Nat :=
  let c0_i32_4671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4670 : BitVec 32 := 1#32
  let v4535 : BitVec 32 := Scalar.muli v64 c1_i32_4670
  let v4536 : BitVec 32 := Scalar.addi c0_i32_4671 v4535
  v4536.toNat
def k0_dev117 (d0 : Dev nD) : Nat :=
  let c0_i32_4698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c2_i32_46 : BitVec 32 := 2#32
  let c13_i32_43 : BitVec 32 := 13#32
  let v59 : BitVec 1 := Scalar.cmpi .eq v34 c13_i32_43
  let c6_i32_44 : BitVec 32 := 6#32
  let c12_i32_41 : BitVec 32 := 12#32
  let v57 : BitVec 1 := Scalar.cmpi .eq v34 c12_i32_41
  let c5_i32_42 : BitVec 32 := 5#32
  let c11_i32_39 : BitVec 32 := 11#32
  let v55 : BitVec 1 := Scalar.cmpi .eq v34 c11_i32_39
  let c9_i32_40 : BitVec 32 := 9#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c14_i32_36 : BitVec 32 := 14#32
  let c8_i32_33 : BitVec 32 := 8#32
  let v49 : BitVec 1 := Scalar.cmpi .eq v34 c8_i32_33
  let c13_i32_34 : BitVec 32 := 13#32
  let c7_i32_31 : BitVec 32 := 7#32
  let v47 : BitVec 1 := Scalar.cmpi .eq v34 c7_i32_31
  let c12_i32_32 : BitVec 32 := 12#32
  let c6_i32_29 : BitVec 32 := 6#32
  let v45 : BitVec 1 := Scalar.cmpi .eq v34 c6_i32_29
  let c15_i32_30 : BitVec 32 := 15#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c8_i32_26 : BitVec 32 := 8#32
  let c3_i32_23 : BitVec 32 := 3#32
  let v39 : BitVec 1 := Scalar.cmpi .eq v34 c3_i32_23
  let c4_i32_24 : BitVec 32 := 4#32
  let c2_i32_21 : BitVec 32 := 2#32
  let v37 : BitVec 1 := Scalar.cmpi .eq v34 c2_i32_21
  let c7_i32_22 : BitVec 32 := 7#32
  let c1_i32_18 : BitVec 32 := 1#32
  let v35 : BitVec 1 := Scalar.cmpi .eq v34 c1_i32_18
  let c3_i32_19 : BitVec 32 := 3#32
  let c0_i32_20 : BitVec 32 := 0#32
  let v36 : BitVec 32 := Scalar.select v35 c3_i32_19 c0_i32_20
  let v38 : BitVec 32 := Scalar.select v37 c7_i32_22 v36
  let v40 : BitVec 32 := Scalar.select v39 c4_i32_24 v38
  let v42 : BitVec 32 := Scalar.select v41 c8_i32_26 v40
  let v44 : BitVec 32 := Scalar.select v43 c11_i32_28 v42
  let v46 : BitVec 32 := Scalar.select v45 c15_i32_30 v44
  let v48 : BitVec 32 := Scalar.select v47 c12_i32_32 v46
  let v50 : BitVec 32 := Scalar.select v49 c13_i32_34 v48
  let v52 : BitVec 32 := Scalar.select v51 c14_i32_36 v50
  let v54 : BitVec 32 := Scalar.select v53 c10_i32_38 v52
  let v56 : BitVec 32 := Scalar.select v55 c9_i32_40 v54
  let v58 : BitVec 32 := Scalar.select v57 c5_i32_42 v56
  let v60 : BitVec 32 := Scalar.select v59 c6_i32_44 v58
  let v62 : BitVec 32 := Scalar.select v61 c2_i32_46 v60
  let v64 : BitVec 32 := Scalar.select v63 c1_i32_48 v62
  let c1_i32_4697 : BitVec 32 := 1#32
  let v4561 : BitVec 32 := Scalar.muli v64 c1_i32_4697
  let v4562 : BitVec 32 := Scalar.addi c0_i32_4698 v4561
  v4562.toNat
def k0_dev118 (d0 : Dev nD) : Nat :=
  let c0_i32_4713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c6_i32_15 : BitVec 32 := 6#32
  let c14_i32_12 : BitVec 32 := 14#32
  let v29 : BitVec 1 := Scalar.cmpi .eq v2 c14_i32_12
  let c9_i32_13 : BitVec 32 := 9#32
  let c13_i32_10 : BitVec 32 := 13#32
  let v27 : BitVec 1 := Scalar.cmpi .eq v2 c13_i32_10
  let c8_i32_11 : BitVec 32 := 8#32
  let c12_i32_8 : BitVec 32 := 12#32
  let v25 : BitVec 1 := Scalar.cmpi .eq v2 c12_i32_8
  let c7_i32_9 : BitVec 32 := 7#32
  let c11_i32_6 : BitVec 32 := 11#32
  let v23 : BitVec 1 := Scalar.cmpi .eq v2 c11_i32_6
  let c5_i32_7 : BitVec 32 := 5#32
  let c10_i32 : BitVec 32 := 10#32
  let v21 : BitVec 1 := Scalar.cmpi .eq v2 c10_i32
  let c10_i32_5 : BitVec 32 := 10#32
  let c9_i32 : BitVec 32 := 9#32
  let v19 : BitVec 1 := Scalar.cmpi .eq v2 c9_i32
  let c11_i32 : BitVec 32 := 11#32
  let c8_i32 : BitVec 32 := 8#32
  let v17 : BitVec 1 := Scalar.cmpi .eq v2 c8_i32
  let c4_i32_4 : BitVec 32 := 4#32
  let c7_i32 : BitVec 32 := 7#32
  let v15 : BitVec 1 := Scalar.cmpi .eq v2 c7_i32
  let c2_i32_3 : BitVec 32 := 2#32
  let c6_i32 : BitVec 32 := 6#32
  let v13 : BitVec 1 := Scalar.cmpi .eq v2 c6_i32
  let c13_i32 : BitVec 32 := 13#32
  let c5_i32 : BitVec 32 := 5#32
  let v11 : BitVec 1 := Scalar.cmpi .eq v2 c5_i32
  let c12_i32 : BitVec 32 := 12#32
  let c4_i32 : BitVec 32 := 4#32
  let v9 : BitVec 1 := Scalar.cmpi .eq v2 c4_i32
  let c3_i32_2 : BitVec 32 := 3#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c14_i32 : BitVec 32 := 14#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c14_i32 v4
  let v8 : BitVec 32 := Scalar.select v7 c1_i32_1 v6
  let v10 : BitVec 32 := Scalar.select v9 c3_i32_2 v8
  let v12 : BitVec 32 := Scalar.select v11 c12_i32 v10
  let v14 : BitVec 32 := Scalar.select v13 c13_i32 v12
  let v16 : BitVec 32 := Scalar.select v15 c2_i32_3 v14
  let v18 : BitVec 32 := Scalar.select v17 c4_i32_4 v16
  let v20 : BitVec 32 := Scalar.select v19 c11_i32 v18
  let v22 : BitVec 32 := Scalar.select v21 c10_i32_5 v20
  let v24 : BitVec 32 := Scalar.select v23 c5_i32_7 v22
  let v26 : BitVec 32 := Scalar.select v25 c7_i32_9 v24
  let v28 : BitVec 32 := Scalar.select v27 c8_i32_11 v26
  let v30 : BitVec 32 := Scalar.select v29 c9_i32_13 v28
  let v32 : BitVec 32 := Scalar.select v31 c6_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c2_i32_80 : BitVec 32 := 2#32
  let c13_i32_77 : BitVec 32 := 13#32
  let v92 : BitVec 1 := Scalar.cmpi .eq v67 c13_i32_77
  let c6_i32_78 : BitVec 32 := 6#32
  let c12_i32_75 : BitVec 32 := 12#32
  let v90 : BitVec 1 := Scalar.cmpi .eq v67 c12_i32_75
  let c5_i32_76 : BitVec 32 := 5#32
  let c11_i32_73 : BitVec 32 := 11#32
  let v88 : BitVec 1 := Scalar.cmpi .eq v67 c11_i32_73
  let c9_i32_74 : BitVec 32 := 9#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c14_i32_70 : BitVec 32 := 14#32
  let c8_i32_67 : BitVec 32 := 8#32
  let v82 : BitVec 1 := Scalar.cmpi .eq v67 c8_i32_67
  let c13_i32_68 : BitVec 32 := 13#32
  let c7_i32_65 : BitVec 32 := 7#32
  let v80 : BitVec 1 := Scalar.cmpi .eq v67 c7_i32_65
  let c12_i32_66 : BitVec 32 := 12#32
  let c6_i32_63 : BitVec 32 := 6#32
  let v78 : BitVec 1 := Scalar.cmpi .eq v67 c6_i32_63
  let c15_i32_64 : BitVec 32 := 15#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c8_i32_60 : BitVec 32 := 8#32
  let c3_i32_57 : BitVec 32 := 3#32
  let v72 : BitVec 1 := Scalar.cmpi .eq v67 c3_i32_57
  let c4_i32_58 : BitVec 32 := 4#32
  let c2_i32_55 : BitVec 32 := 2#32
  let v70 : BitVec 1 := Scalar.cmpi .eq v67 c2_i32_55
  let c7_i32_56 : BitVec 32 := 7#32
  let c1_i32_52 : BitVec 32 := 1#32
  let v68 : BitVec 1 := Scalar.cmpi .eq v67 c1_i32_52
  let c3_i32_53 : BitVec 32 := 3#32
  let c0_i32_54 : BitVec 32 := 0#32
  let v69 : BitVec 32 := Scalar.select v68 c3_i32_53 c0_i32_54
  let v71 : BitVec 32 := Scalar.select v70 c7_i32_56 v69
  let v73 : BitVec 32 := Scalar.select v72 c4_i32_58 v71
  let v75 : BitVec 32 := Scalar.select v74 c8_i32_60 v73
  let v77 : BitVec 32 := Scalar.select v76 c11_i32_62 v75
  let v79 : BitVec 32 := Scalar.select v78 c15_i32_64 v77
  let v81 : BitVec 32 := Scalar.select v80 c12_i32_66 v79
  let v83 : BitVec 32 := Scalar.select v82 c13_i32_68 v81
  let v85 : BitVec 32 := Scalar.select v84 c14_i32_70 v83
  let v87 : BitVec 32 := Scalar.select v86 c10_i32_72 v85
  let v89 : BitVec 32 := Scalar.select v88 c9_i32_74 v87
  let v91 : BitVec 32 := Scalar.select v90 c5_i32_76 v89
  let v93 : BitVec 32 := Scalar.select v92 c6_i32_78 v91
  let v95 : BitVec 32 := Scalar.select v94 c2_i32_80 v93
  let v97 : BitVec 32 := Scalar.select v96 c1_i32_82 v95
  let c1_i32_4712 : BitVec 32 := 1#32
  let v4573 : BitVec 32 := Scalar.muli v97 c1_i32_4712
  let v4574 : BitVec 32 := Scalar.addi c0_i32_4713 v4573
  v4574.toNat
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Chain.lean ====
/-
The kernel's body, written once for its four chains and fifteen steps.

The printed body unrolls the four chains and the fifteen steps. Here the same program is written with the
chain `j`, the slot `b` and the step `s` as variables, over tables of the buffers and semaphores that each
chain uses. `body_eq` states that the printed body is this program.

Chains are numbered in program order: 0 and 2 send to the right neighbour, 1 and 3 to the left one.
-/
module

public import proofs.«01_k».proof.Proof.Gen.KernelIdeal
public import Idealize.ShloMosaic.Lib.Pipeline.Regions

@[expose] public section

noncomputable section

namespace Cert.KernelIdeal.Chain

open Cert.KernelIdeal Cert.KernelIdeal.Gen
open Idealize.ShloMosaic Idealize.SL.Sem
open Idealize.ShloMosaic.TcCoe

variable {F : FTy → Type} [FloatOps F]

/-- The two neighbours on the ring, as the kernel computes them. -/
abbrev lft (c : Dev nD) : Dev nD := ⟨k0_dev1 c, k0_dev1_lt c⟩
abbrev rgt (c : Dev nD) : Dev nD := ⟨k0_dev2 c, k0_dev2_lt c⟩

/-- The neighbour that chain `j` sends to, and the one it receives from. -/
def tgt (j : Fin 4) (c : Dev nD) : Dev nD := match j with
  | 0 => rgt c | 1 => lft c | 2 => rgt c | 3 => lft c
def ups (j : Fin 4) (c : Dev nD) : Dev nD := match j with
  | 0 => lft c | 1 => rgt c | 2 => lft c | 3 => rgt c

/-- Slot `s % 2`, and the other slot. -/
def par (s : ℕ) : Fin 2 := ⟨s % 2, Nat.mod_lt _ (by decide)⟩
def nb (b : Fin 2) : Fin 2 := match b with | 0 => 1 | 1 => 0

/-! ## Buffers and semaphores -/

abbrev xM : Memref sig .tc .vmem S8192x512 .bf16 := Memref.whole cc0_stg0_0
abbrev wM : Memref sig .tc .vmem S512x4096 .bf16 := Memref.whole cc0_stg1_0
abbrev oM : Memref sig .tc .vmem S512x4096 .f32 := Memref.whole cc0_stg2_0

/-- The two-slot buffer of a chain. -/
def bufM (j : Fin 4) : Memref sig .tc .vmem S2x512x1024 .bf16 := match j with
  | 0 => Memref.whole cc0_scratch0 | 1 => Memref.whole cc0_scratch2
  | 2 => Memref.whole cc0_scratch1 | 3 => Memref.whole cc0_scratch3
theorem bufM_whole (j : Fin 4) : (bufM j).IsWhole := match j with
  | 0 => Memref.isWhole_whole _ | 1 => Memref.isWhole_whole _
  | 2 => Memref.isWhole_whole _ | 3 => Memref.isWhole_whole _

/-- A chain's first DMA semaphore; its two send semaphores, its two receive semaphores follow in order. -/
def semBase (j : Fin 4) : ℕ := match j with | 0 => 3 | 1 => 11 | 2 => 7 | 3 => 15
theorem semBase_le (j : Fin 4) : semBase j + 4 ≤ 19 := by revert j; decide
def sndS (j : Fin 4) (b : Fin 2) : DmaSem sig := ⟨semBase j + b.val, by have := semBase_le j; have := b.isLt; show _ < 19; omega⟩
def rcvS (j : Fin 4) (b : Fin 2) : DmaSem sig := ⟨semBase j + 2 + b.val, by have := semBase_le j; have := b.isLt; show _ < 19; omega⟩
def crdS (j : Fin 4) : Sem sig := ⟨j.val, by have := j.isLt; show _ < 5; omega⟩
def barS : Sem sig := sig.barrier 0 rfl

/-- Slot `b` of a chain's buffer, as a rectangle. -/
theorem slot_inb (b : Fin 2) : ∀ a, (![b.val, 0, 0] : Fin 3 → Nat) a + S1x512x1024.size a ≤ S2x512x1024.size a := by
  revert b; decide
abbrev slotR (b : Fin 2) : Rect S2x512x1024 := Rect.unit (s := S2x512x1024) ![b.val, 0, 0] S1x512x1024.size (slot_inb b)
theorem slot_packed (b : Fin 2) : (slotR b).PackedRows (EltTy.packing .bf16) := match b with
  | 0 => packedbf16_S2x512x1024_S1x512x1024_0_0_0 | 1 => packedbf16_S2x512x1024_S1x512x1024_1_0_0
theorem slot_words (b : Fin 2) : (slotR b).WholeWords (EltTy.packing .bf16) := match b with
  | 0 => wordsbf16_S2x512x1024_S1x512x1024_0_0_0 | 1 => wordsbf16_S2x512x1024_S1x512x1024_1_0_0
/-- Slot `b` of a chain's buffer, as the copies name it. -/
abbrev slotM (j : Fin 4) (b : Fin 2) : Memref sig .tc .vmem S512x1024 .bf16 :=
  ((bufM j).slice (slotR b) (fun _ => rfl)).squeeze S512x1024 squeezes_S1x512x1024_S512x1024
theorem slot_exact (j : Fin 4) (b : Fin 2) : (slotM j b).view.WordExact :=
  ((bufM_whole j).wordExact_slice rfl _ (slot_words b)).reshape _ _

/-- The first of a chain's 1024 result columns. -/
def colLo (j : Fin 4) : ℕ := match j with | 0 => 0 | 1 => 2048 | 2 => 1024 | 3 => 3072
theorem col_inb (j : Fin 4) : ∀ a, (![0, colLo j] : Fin 2 → Nat) a + S512x1024.size a ≤ S512x4096.size a := by
  revert j; decide
abbrev colR (j : Fin 4) : Rect S512x4096 := Rect.unit (s := S512x4096) ![0, colLo j] S512x1024.size (col_inb j)

/-- The first row of the block of `x` that chain `j` multiplies at the start, and at step `s`. -/
def off0 (j : Fin 4) (c : Dev nD) : Fin 2 → ℕ := match j with
  | 0 => k0_off1 c | 1 => k0_off2 c | 2 => k0_off1 c | 3 => k0_off2 c
theorem off0_inb (j : Fin 4) (c : Dev nD) : ∀ a, off0 j c a + S512x512.size a ≤ S8192x512.size a := match j with
  | 0 => k0_off1_inb c | 1 => k0_off2_inb c | 2 => k0_off1_inb c | 3 => k0_off2_inb c
def offS (j : Fin 4) (c : Dev nD) (s : Fin 15) : Fin 2 → ℕ := match j with
  | 0 => k0_off3 c (BitVec.ofNat 32 s.val) | 1 => k0_off4 c (BitVec.ofNat 32 s.val)
  | 2 => k0_off3 c (BitVec.ofNat 32 s.val) | 3 => k0_off4 c (BitVec.ofNat 32 s.val)
theorem offS_inb (j : Fin 4) (c : Dev nD) (s : Fin 15) : ∀ a, offS j c s a + S512x512.size a ≤ S8192x512.size a := match j with
  | 0 => k0_off3_inb c s | 1 => k0_off4_inb c s | 2 => k0_off3_inb c s | 3 => k0_off4_inb c s

/-! ## The values the body computes -/

/-- One block product, in f32. -/
def prodv (x : Vec F S512x512 .bf16) (w : Vec F S512x1024 .bf16) : FVec F S512x1024 .f32 :=
  matmul dot_S512x512_S512x1024_S512x1024_1_0_0_1_n_n none (shapeCast S512x512 x shapeCasts_S512x512_S512x512)
    (shapeCast S512x1024 w shapeCasts_S512x1024_S512x1024) (constant S512x1024 .f32 0x00000000#32)
/-- What a slot is given: an f32 block rounded to bf16. -/
def packv (a : FVec F S512x1024 .f32) : FVec F S1x512x1024 .bf16 :=
  shapeCast S1x512x1024 (truncf .bf16 a bitsLt_bf16_f32) shapeCasts_S512x1024_S1x512x1024
/-- A received block, widened, plus this device's product. -/
def addv (v : Vec F S1x512x1024 .bf16) (p : FVec F S512x1024 .f32) : FVec F S512x1024 .f32 :=
  addf (extf .f32 (shapeCast S512x1024 v shapeCasts_S1x512x1024_S512x1024) bitsLt_bf16_f32) p
/-- The kernel's gelu. -/
def geluv (z : FVec F S512x1024 .f32) : FVec F S512x1024 .f32 :=
  mulf (mulf (broadcast S512x1024 (Scalar.ofBits .f32 0x3F000000#32)) z)
    (addf (broadcast S512x1024 (Scalar.ofBits .f32 0x3F800000#32))
      (tanh (mulf (broadcast S512x1024 (Scalar.ofBits .f32 0x3F4C422A#32))
        (addf z (mulf (mulf (mulf (broadcast S512x1024 (Scalar.ofBits .f32 0x3D372713#32)) z) z) z)))))

/-! ## The program -/

abbrev PG (F : FTy → Type) := Prog (TpuEff nD τ sig (Elt F) Λ₀ .tc)

def loadX (off : Fin 2 → ℕ) (h : ∀ a, off a + S512x512.size a ≤ S8192x512.size a) {α : Type} (k : Vec F S512x512 .bf16 → PG F α) : PG F α :=
  .op (.load xM (Rect.unit (s := S8192x512) off S512x512.size h).toLoadRect (View.loadsAt_vmem h_S512x512)) k
def loadW (j : Fin 4) {α : Type} (k : Vec F S512x1024 .bf16 → PG F α) : PG F α :=
  .op (.load wM (colR j).toLoadRect (View.loadsAt_vmem h_S512x1024)) k
def loadB (j : Fin 4) (b : Fin 2) {α : Type} (k : Vec F S1x512x1024 .bf16 → PG F α) : PG F α :=
  .op (.load (bufM j) (slotR b).toLoadRect (View.loadsAt_vmem h_S1x512x1024)) k
def storeB (j : Fin 4) (b : Fin 2) (v : Vec F S1x512x1024 .bf16) {α : Type} (k : PUnit → PG F α) : PG F α :=
  .op (.store (bufM j) (slotR b) v Finset.univ
    (View.stores_vmem h_S1x512x1024 ((bufM_whole j).storeExact_slice rfl _ (slot_packed b)) (fun _ => rfl)) (.inl rfl)) k
def loadO (j : Fin 4) {α : Type} (k : Vec F S512x1024 .f32 → PG F α) : PG F α :=
  .op (.load oM (colR j).toLoadRect (View.loadsAt_vmem h_S512x1024)) k
def storeO (j : Fin 4) (v : Vec F S512x1024 .f32) {α : Type} (k : PUnit → PG F α) : PG F α :=
  .op (.store oM (colR j) v Finset.univ (View.stores_vmem_bits_univ h_S512x1024 rfl) (.inl rfl)) k
/-- Start the copy of slot `b` to the other slot of device `n`. -/
def sendB (j : Fin 4) (b : Fin 2) (n : Dev nD) {α : Type} (k : PUnit → PG F α) : PG F α :=
  .op (.enqueueDma (slotM j b) (.remote (Dev.tc n) (slotM j (nb b)) (.dma (sndS j b))) (.dma (rcvS j (nb b)))
    (slot_exact j b) (slot_exact j (nb b)) ⟨⟨rfl, Or.inl rfl⟩, trivial⟩) k
/-- Wait for the copy that leaves a neighbour's slot `b` to have landed in the other slot here. -/
def waitR (j : Fin 4) (b : Fin 2) {α : Type} (k : PUnit → PG F α) : PG F α :=
  .op (.waitDma2 (rcvS j (nb b)) (slotM j b) (slotM j (nb b)) (slot_exact j b) (slot_exact j (nb b))) k
/-- Wait for the copy out of slot `b` to have been sent. -/
def waitS (j : Fin 4) (b : Fin 2) {α : Type} (k : PUnit → PG F α) : PG F α :=
  .op (.waitDma2 (sndS j b) (slotM j (nb b)) (slotM j b) (slot_exact j (nb b)) (slot_exact j b)) k
/-- Signal one unit on semaphore `sem` of device `n`; wait for `a` units on one's own. -/
def sigW (n : Dev nD) (sem : Sem sig) {α : Type} (k : PUnit → PG F α) : PG F α :=
  .op (.semSignal (Dev.tc n) sem ((1 : ℕ) : ℤ)) k
def waitW (sem : Sem sig) (a : ℕ) {α : Type} (k : PUnit → PG F α) : PG F α :=
  .op (.semWait sem (a : ℤ)) k
/-- Chain `j`'s first block product, stored and sent. -/
def startC (j : Fin 4) (c : Dev nD) : PG F PUnit :=
  loadX (off0 j c) (off0_inb j c) fun x => loadW j fun w => loadB j 0 fun _ =>
    storeB j 0 (packv (prodv x w)) fun _ => sendB j 0 (tgt j c) .ret
/-- Chain `j`'s block product of step `s`. -/
def prodC (j : Fin 4) (c : Dev nD) (s : Fin 15) : PG F (FVec F S512x1024 .f32) :=
  loadX (offS j c s) (offS_inb j c s) fun x => loadW j fun w => .ret (prodv x w)
/-- Chain `j`'s exchange of step `s`: receive the neighbour's partial sum, see the own one sent, tell the
    neighbour that its slot is free, add the product, and send on once the next device's slot is free. -/
def hopC (j : Fin 4) (c : Dev nD) (s : ℕ) (p : FVec F S512x1024 .f32) : PG F PUnit :=
  waitR j (par s) fun _ => waitS j (par s) fun _ => sigW (ups j c) (crdS j) fun _ =>
    loadB j (nb (par s)) fun v => loadB j (nb (par s)) fun _ => storeB j (nb (par s)) (packv (addv v p)) fun _ =>
      waitW (crdS j) 1 fun _ => sendB j (nb (par s)) (tgt j c) .ret
/-- Chain `j`'s last step: receive, add, and store the gelu of the whole sum. -/
def lastC (j : Fin 4) (p : FVec F S512x1024 .f32) : PG F PUnit :=
  waitR j 0 fun _ => loadB j 1 fun v => loadO j fun _ => storeO j (geluv (addv v p)) .ret

def stepC (c : Dev nD) (s : Fin 15) : PG F PUnit :=
  prodC 0 c s >>= fun p0 => prodC 1 c s >>= fun p1 => prodC 2 c s >>= fun p2 => prodC 3 c s >>= fun p3 =>
    hopC 0 c s.val p0 >>= fun _ => hopC 1 c s.val p1 >>= fun _ => hopC 2 c s.val p2 >>= fun _ => hopC 3 c s.val p3
def lastStepC (c : Dev nD) : PG F PUnit :=
  prodC 0 c 14 >>= fun p0 => prodC 1 c 14 >>= fun p1 => prodC 2 c 14 >>= fun p2 => prodC 3 c 14 >>= fun p3 =>
    lastC 0 p0 >>= fun _ => lastC 1 p1 >>= fun _ => lastC 2 p2 >>= fun _ => lastC 3 p3
/-- Steps `14 - n` to 13. -/
def stepsC (c : Dev nD) : ℕ → PG F PUnit
  | 0 => .ret ⟨⟩
  | n + 1 => stepC c ⟨(13 - n) % 15, Nat.mod_lt _ (by decide)⟩ >>= fun _ => stepsC c n

def bodyC (c : Dev nD) : PG F PUnit :=
  sigW (lft c) barS fun _ => sigW (rgt c) barS fun _ => waitW barS 2 fun _ =>
    startC 0 c >>= fun _ => startC 1 c >>= fun _ => startC 2 c >>= fun _ => startC 3 c >>= fun _ =>
      stepsC c 14 >>= fun _ => lastStepC c >>= fun _ =>
        waitS 0 0 fun _ => waitS 1 0 fun _ => waitS 2 0 fun _ => waitS 3 0 .ret

/-- The printed body is the program above. -/
theorem body_eq : cc0_body (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12
    = .op .deviceId fun c => bodyC c := by
  chain_rfl

end Cert.KernelIdeal.Chain

end
-- ==== Proof.Sched.lean ====
/-
The protocol between the devices.

Per chain `j`, device `c` sends to `tgt j c` and receives from `ups j c`. Hop `h` (0 to 14) leaves slot `h % 2`
and lands in the other slot of the receiver.

* The barrier cell has one round with two duties, one per neighbour: a neighbour hands over slot 1 of its
  buffers of the chains that send to it, and that its receive cells are at their first round.
* A receive cell's round is one hop: the slot comes back holding the sender's partial sum, with the sender's
  word that its credit cell has reached that hop.
* A send cell's round is one hop: the slot comes back.
* A credit cell's round `s` is the receiver's word that its slot `s % 2` is free for hop `s + 1`, with that slot.

The order in which a device waits is the order of the levels `lv`.
-/
module

public import proofs.«01_k».proof.Proof.Chain
public import proofs.«01_k».proof.Proof.Gen.KernelIdeal.Launch
public import proofs.«01_k».proof.Proof.Gen.KernelIdeal.Points
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

set_option maxRecDepth 8000 in
theorem rgt_lft (c : Dev nD) : rgt (lft c) = c := by revert c; decide +kernel
set_option maxRecDepth 8000 in
theorem lft_rgt (c : Dev nD) : lft (rgt c) = c := by revert c; decide +kernel
theorem tgt_ups (j : Fin 4) (c : Dev nD) : tgt j (ups j c) = c := match j with
  | 0 => rgt_lft c | 1 => lft_rgt c | 2 => rgt_lft c | 3 => lft_rgt c
theorem ups_tgt (j : Fin 4) (c : Dev nD) : ups j (tgt j c) = c := match j with
  | 0 => lft_rgt c | 1 => rgt_lft c | 2 => lft_rgt c | 3 => rgt_lft c

/-- A device's target on a chain, as a permutation of the devices. -/
def ring (j : Fin 4) : Dev nD ≃ Dev nD := ⟨tgt j, ups j, ups_tgt j, tgt_ups j⟩

/-! ## Slots by parity -/

theorem nb_nb (b : Fin 2) : nb (nb b) = b := by revert b; decide
theorem nb_val (b : Fin 2) : (nb b).val = 1 - b.val := by revert b; decide
theorem par_succ (s : ℕ) : par (s + 1) = nb (par s) := by
  apply Fin.ext; rw [nb_val]; show (s + 1) % 2 = 1 - s % 2; omega
theorem par_val (s : ℕ) : (par s).val = s % 2 := rfl
theorem half_succ_succ (s : ℕ) : (s + 1 + 1) / 2 = s / 2 + 1 := by omega

/-! ## Cells -/

/-- What a semaphore is for. -/
inductive Kind where
  | bar | snd (j : Fin 4) (b : Fin 2) | rcv (j : Fin 4) (b : Fin 2) | crd (j : Fin 4) | none
deriving DecidableEq

def chainOf (q : ℕ) : Fin 4 := match q with | 0 => 0 | 1 => 2 | 2 => 1 | _ => 3
def kind : SemLoc sig → Kind
  | .reg i => if h : i.val < 4 then .crd ⟨i.val, h⟩ else .bar
  | .dma i => if i.val < 3 then .none
      else if (i.val - 3) % 4 < 2 then .snd (chainOf ((i.val - 3) / 4)) (par ((i.val - 3) % 4))
      else .rcv (chainOf ((i.val - 3) / 4)) (par ((i.val - 3) % 4))

theorem kind_snd (j : Fin 4) (b : Fin 2) : kind (.dma (sndS j b)) = .snd j b := by revert j b; decide
theorem kind_rcv (j : Fin 4) (b : Fin 2) : kind (.dma (rcvS j b)) = .rcv j b := by revert j b; decide
theorem kind_crd (j : Fin 4) : kind (.reg (crdS j)) = .crd j := by revert j; decide
theorem kind_bar : kind (.reg barS) = .bar := by decide

abbrev barCell (c : Dev nD) : GSem nD τ sig := ((c : Thread nD τ), .reg barS)
abbrev sndCell (c : Dev nD) (j : Fin 4) (b : Fin 2) : GSem nD τ sig := ((c : Thread nD τ), .dma (sndS j b))
abbrev rcvCell (c : Dev nD) (j : Fin 4) (b : Fin 2) : GSem nD τ sig := ((c : Thread nD τ), .dma (rcvS j b))
abbrev crdCell (c : Dev nD) (j : Fin 4) : GSem nD τ sig := ((c : Thread nD τ), .reg (crdS j))

/-- A device's own cells in order: sixteen DMA cells, four credit cells, the barrier cell. -/
def csem (k : Fin 21) : SemLoc sig :=
  if h : k.val < 16 then .dma ⟨3 + k.val, by show _ < 19; omega⟩
  else .reg ⟨k.val - 16, by have := k.isLt; show _ < 5; omega⟩
abbrev kcell (ck : Dev nD × Fin 21) : GSem nD τ sig := ((ck.1 : Thread nD τ), csem ck.2)

def kS (j : Fin 4) (b : Fin 2) : Fin 21 := ⟨semBase j - 3 + b.val, by have := semBase_le j; have := b.isLt; omega⟩
def kR (j : Fin 4) (b : Fin 2) : Fin 21 := ⟨semBase j - 1 + b.val, by have := semBase_le j; have := b.isLt; omega⟩
def kC (j : Fin 4) : Fin 21 := ⟨16 + j.val, by have := j.isLt; omega⟩
def kB : Fin 21 := 20
theorem csem_S (j : Fin 4) (b : Fin 2) : csem (kS j b) = .dma (sndS j b) := by revert j b; decide
theorem csem_R (j : Fin 4) (b : Fin 2) : csem (kR j b) = .dma (rcvS j b) := by revert j b; decide
theorem csem_C (j : Fin 4) : csem (kC j) = .reg (crdS j) := by revert j; decide
theorem csem_B : csem kB = .reg barS := by decide

/-- What one copy of a slot counts for on a semaphore. -/
abbrev N : ℕ := (slotM 0 0).view.dmaCredit
theorem N_eq (j : Fin 4) (b : Fin 2) : (slotM j b).view.dmaCredit = N := by
  match j, b with
  | 0, 0 => rfl
  | 0, 1 => rfl
  | 1, 0 => rfl
  | 1, 1 => rfl
  | 2, 0 => rfl
  | 2, 1 => rfl
  | 3, 0 => rfl
  | 3, 1 => rfl
theorem N_pos : 0 < N := View.dmaCredit_pos _ (by decide)

/-! ## Contents -/

section Contents
variable (X : Dev nD → (cc0_stg0_0 : Ref sig .tc).ty.Contents (Elt F)) (Y : Dev nD → (cc0_stg1_0 : Ref sig .tc).ty.Contents (Elt F))

/-- The block product of chain `j` on rows `off` of device `c`'s block. -/
def prodAt (j : Fin 4) (c : Dev nD) (off : Fin 2 → ℕ) (h : ∀ a, off a + S512x512.size a ≤ S8192x512.size a) : FVec F S512x1024 .f32 :=
  prodv ((xM : Memref sig .tc .vmem S8192x512 .bf16).view.readAt (Elt F) (Rect.unit (s := S8192x512) off S512x512.size h).toLoadRect (X c))
    ((wM : Memref sig .tc .vmem S512x4096 .bf16).view.readAt (Elt F) (colR j).toLoadRect (Y c))
def prod0 (j : Fin 4) (c : Dev nD) : FVec F S512x1024 .f32 := prodAt X Y j c (off0 j c) (off0_inb j c)
def prodS (j : Fin 4) (c : Dev nD) (s : Fin 15) : FVec F S512x1024 .f32 := prodAt X Y j c (offS j c s) (offS_inb j c s)
def step15 (s : ℕ) : Fin 15 := ⟨s % 15, Nat.mod_lt _ (by decide)⟩

/-- What device `c` sends on chain `j` at hop `h`: its first product, then what it received plus its next product. -/
def val (j : Fin 4) : ℕ → Dev nD → FVec F S1x512x1024 .bf16
  | 0, c => packv (prod0 X Y j c)
  | h + 1, c => packv (addv (val j h (ups j c)) (prodS X Y j c (step15 h)))
/-- The result columns of chain `j` on device `c`. -/
def outP (j : Fin 4) (c : Dev nD) : FVec F S512x1024 .f32 :=
  geluv (addv (val X Y j 14 (ups j c)) (prodS X Y j c 14))

/-- Slot `b` of device `c`'s buffer of chain `j`: its elements, as loads and stores reach them. -/
abbrev slotV (j : Fin 4) (b : Fin 2) := (bufM j).access (slotR b)
def slotF (c : Dev nD) (j : Fin 4) (b : Fin 2) (f : Buf (Elt F) ((slotV j b).loc (c : Thread nD τ))) : sProp 𝕄 :=
  (slotV j b).loc (c : Thread nD τ) ↦[(slotV j b).set]{fullShare} f
/-- Slot `b` held with the value `v`; held with some contents. -/
def slotP (c : Dev nD) (j : Fin 4) (b : Fin 2) (v : FVec F S1x512x1024 .bf16) : sProp 𝕄 :=
  iprop(∃ f, ⌜(slotV j b).read (Elt F) f = v⌝ ∗ slotF c j b f)
def slotA (c : Dev nD) (j : Fin 4) (b : Fin 2) : sProp 𝕄 := iprop(∃ f, slotF (F := F) c j b f)

omit [FloatOps F] in
instance slotF_storable (c : Dev nD) (j b f) : BI.Storable (upEmb : UEmb _ 𝕄) (slotF (F := F) c j b f) := by unfold slotF; infer_instance
omit [FloatOps F] in
instance slotP_storable (c : Dev nD) (j b v) : BI.Storable (upEmb : UEmb _ 𝕄) (slotP (F := F) c j b v) := by unfold slotP; infer_instance
omit [FloatOps F] in
instance slotA_storable (c : Dev nD) (j b) : BI.Storable (upEmb : UEmb _ 𝕄) (slotA (F := F) c j b) := by unfold slotA; infer_instance

omit [FloatOps F] in
theorem slotA_of_slotF (c : Dev nD) (j b) (f) : slotF (F := F) c j b f ⊢ slotA c j b := by
  unfold slotA; iintro H; iexists f; iexact H

omit [FloatOps F] in
/-- The slot as the copies name it has the same elements. -/
theorem slotM_set (j : Fin 4) (b : Fin 2) : (slotM j b).view.set = (slotV j b).set := View.set_reshape _ _
omit [FloatOps F] in
theorem slotM_read_inj (j : Fin 4) (b b' : Fin 2) (f : (slotV j b).ty.Contents (Elt F)) (g : (slotV j b').ty.Contents (Elt F))
    (h : (slotM j b).view.read (Elt F) f = (slotM j b').view.read (Elt F) g) : (slotV j b).read (Elt F) f = (slotV j b').read (Elt F) g := by
  funext y
  have := congrFun h ((Shape.reshapeEquiv (squeezes_S1x512x1024_S512x1024.numel_eq)).symm y)
  have e : ∀ (b : Fin 2) (f : (slotV j b).ty.Contents (Elt F)) (z : S512x1024.Idx), (slotM j b).view.read (Elt F) f z
      = (slotV j b).read (Elt F) f (Shape.reshapeEquiv (squeezes_S1x512x1024_S512x1024.numel_eq) z) := fun _ _ _ => rfl
  rw [e, e, Equiv.apply_symm_apply] at this
  exact this

/-! ## The schedule -/

/-- The hop that round `r` of a receive cell of slot `b` is; of a send cell. -/
def hopR (b : Fin 2) (r : ℕ) : ℕ := 2 * r + (nb b).val
def hopS (b : Fin 2) (r : ℕ) : ℕ := 2 * r + b.val
theorem hopR_at (s : ℕ) : hopR (nb (par s)) (s / 2) = s := by unfold hopR; rw [nb_nb, par_val]; omega
theorem hopS_at (s : ℕ) : hopS (par s) (s / 2) = s := by unfold hopS; rw [par_val]; omega

/-- What a device hands its sender on chain `j` before the first hop: slot 1, and that its receive cell is at round 0. -/
def openPay (c : Dev nD) (j : Fin 4) : sProp 𝕄 := iprop(slotA (tgt j c) j 1 ∗ reached ER (rcvCell (tgt j c) j 1) 0)
def barPay (c : Dev nD) (d : Bool) : sProp 𝕄 :=
  if d then iprop(openPay (F := F) c 0 ∗ openPay c 2) else iprop(openPay (F := F) c 1 ∗ openPay c 3)
def rcvPay (c : Dev nD) (j : Fin 4) (b : Fin 2) (h : ℕ) : sProp 𝕄 :=
  iprop(slotP c j b (val X Y j h (ups j c)) ∗ reached ER (crdCell (ups j c) j) h)
def crdPay (c : Dev nD) (j : Fin 4) (s : ℕ) : sProp 𝕄 :=
  iprop(slotA (tgt j c) j (par s) ∗ reached ER (rcvCell (tgt j c) j (par s)) ((s + 1) / 2))

def payK (c : Dev nD) (k : Kind) (r : ℕ) (d : Bool) : sProp 𝕄 := match k with
  | .bar => barPay c d
  | .snd j b => slotA c j b
  | .rcv j b => rcvPay X Y c j b (hopR b r)
  | .crd j => crdPay c j r
  | .none => iprop(emp)
def dutyK (k : Kind) (r : ℕ) : Finset Bool := match k with
  | .bar => if r = 0 then Finset.univ else ∅
  | .snd j b => if hopS b r < 15 then {false} else ∅
  | .rcv j b => if hopR b r < 15 then {false} else ∅
  | .crd j => if r < 14 then {false} else ∅
  | .none => ∅
def amtK (k : Kind) : ℕ := match k with
  | .bar => 1 | .crd _ => 1 | _ => N

def Rd : Rounds.Schedule (GSem nD τ sig) Bool 𝕄 where
  duties g r := if g.1.2 = .tc then dutyK (kind g.2) r else ∅
  unitless _ := False
  amount g _ _ := amtK (kind g.2)
  payload g r d := payK X Y g.1.1 (kind g.2) r d
  amount_pos g _ _ _ := by
    show 0 < amtK (kind g.2)
    unfold amtK; split <;> first | exact Nat.one_pos | exact N_pos

instance Rd_storable (g : GSem nD τ sig) (r : ℕ) (d : Bool) : BI.Storable (upEmb : UEmb _ 𝕄) ((Rd X Y).payload g r d) := by
  show BI.Storable upEmb (payK X Y g.1.1 (kind g.2) r d)
  unfold payK; split
  · unfold barPay openPay; split <;> infer_instance
  · infer_instance
  · unfold rcvPay; infer_instance
  · unfold crdPay; infer_instance
  · infer_instance

section Facts
variable (c : Dev nD) (j : Fin 4) (b : Fin 2) (s : ℕ)

theorem duties_eq (sm : SemLoc sig) (r : ℕ) : (Rd X Y).duties ((c : Thread nD τ), sm) r = dutyK (kind sm) r := by
  show (if (c : Thread nD τ).2 = .tc then dutyK (kind sm) r else ∅) = _; exact if_pos rfl
theorem duties_bar : (Rd X Y).duties (barCell c) 0 = Finset.univ := by rw [duties_eq, kind_bar]; rfl
theorem duties_snd (hs : s < 15) : (Rd X Y).duties (sndCell c j (par s)) (s / 2) = {false} := by
  rw [duties_eq, kind_snd]; show (if hopS _ _ < 15 then _ else _) = _; rw [hopS_at, if_pos hs]
theorem duties_rcv (hs : s < 15) : (Rd X Y).duties (rcvCell c j (nb (par s))) (s / 2) = {false} := by
  rw [duties_eq, kind_rcv]; show (if hopR _ _ < 15 then _ else _) = _; rw [hopR_at, if_pos hs]
theorem duties_crd (hs : s < 14) : (Rd X Y).duties (crdCell c j) s = {false} := by
  rw [duties_eq, kind_crd]; exact if_pos hs
theorem amount_bar (r d) : (Rd X Y).amount (barCell c) r d = 1 := by show amtK (kind (.reg barS)) = _; rw [kind_bar]; rfl
theorem amount_snd (r d) : (Rd X Y).amount (sndCell c j b) r d = N := by show amtK (kind _) = _; rw [kind_snd]; rfl
theorem amount_rcv (r d) : (Rd X Y).amount (rcvCell c j b) r d = N := by show amtK (kind _) = _; rw [kind_rcv]; rfl
theorem amount_crd (r d) : (Rd X Y).amount (crdCell c j) r d = 1 := by show amtK (kind _) = _; rw [kind_crd]; rfl
theorem payload_bar (r d) : (Rd X Y).payload (barCell c) r d = barPay c d := by show payK X Y c (kind (.reg barS)) r d = _; rw [kind_bar]; rfl
theorem payload_snd (r d) : (Rd X Y).payload (sndCell c j b) r d = slotA c j b := by show payK X Y c (kind _) r d = _; rw [kind_snd]; rfl
theorem payload_rcv (d) : (Rd X Y).payload (rcvCell c j (nb (par s))) (s / 2) d = rcvPay X Y c j (nb (par s)) s := by
  show payK X Y c (kind _) _ d = _; rw [kind_rcv]; show rcvPay X Y c j _ (hopR _ _) = _; rw [hopR_at]
theorem payload_crd (d) : (Rd X Y).payload (crdCell c j) s d = crdPay c j s := by show payK X Y c (kind _) s d = _; rw [kind_crd]; rfl

theorem expect_bar : (Rd X Y).expect (barCell c) 0 = 2 := by
  unfold Schedule.expect Schedule.amountOf
  rw [duties_bar, Finset.sum_congr rfl fun d _ => amount_bar X Y c 0 d, Finset.sum_const, Finset.card_univ, Fintype.card_bool, smul_eq_mul]
theorem expect_snd (hs : s < 15) : (Rd X Y).expect (sndCell c j (par s)) (s / 2) = N := by
  unfold Schedule.expect Schedule.amountOf; rw [duties_snd X Y c j s hs, Finset.sum_singleton, amount_snd]
theorem expect_rcv (hs : s < 15) : (Rd X Y).expect (rcvCell c j (nb (par s))) (s / 2) = N := by
  unfold Schedule.expect Schedule.amountOf; rw [duties_rcv X Y c j s hs, Finset.sum_singleton, amount_rcv]
theorem expect_crd (hs : s < 14) : (Rd X Y).expect (crdCell c j) s = 1 := by
  unfold Schedule.expect Schedule.amountOf; rw [duties_crd X Y c j s hs, Finset.sum_singleton, amount_crd]

theorem rest_bar : bigSep ((Rd X Y).duties (barCell c) 0 \ ∅) (fun d => (Rd X Y).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_snd (hs : s < 15) : bigSep ((Rd X Y).duties (sndCell c j (par s)) (s / 2) \ ∅) (fun d => (Rd X Y).payload (sndCell c j (par s)) (s / 2) d)
    = slotA c j (par s) := by
  rw [Finset.sdiff_empty, duties_snd X Y c j s hs, bigSep_singleton, payload_snd]
theorem rest_rcv (hs : s < 15) : bigSep ((Rd X Y).duties (rcvCell c j (nb (par s))) (s / 2) \ ∅) (fun d => (Rd X Y).payload (rcvCell c j (nb (par s))) (s / 2) d)
    = rcvPay X Y c j (nb (par s)) s := by
  rw [Finset.sdiff_empty, duties_rcv X Y c j s hs, bigSep_singleton, payload_rcv]
theorem rest_crd (hs : s < 14) : bigSep ((Rd X Y).duties (crdCell c j) s \ ∅) (fun d => (Rd X Y).payload (crdCell c j) s d) = crdPay c j s := by
  rw [Finset.sdiff_empty, duties_crd X Y c j s hs, bigSep_singleton, payload_crd]

end Facts

/-- After the last round of each cell there is no duty. -/
theorem later_snd (c : Dev nD) (j : Fin 4) (b : Fin 2) (R : ℕ) (h : 15 ≤ hopS b R) : ∀ r, R ≤ r → (Rd X Y).duties (sndCell c j b) r = ∅ := fun r hr => by
  rw [duties_eq, kind_snd]; exact if_neg (by unfold hopS at h ⊢; omega)
theorem later_rcv (c : Dev nD) (j : Fin 4) (b : Fin 2) (R : ℕ) (h : 15 ≤ hopR b R) : ∀ r, R ≤ r → (Rd X Y).duties (rcvCell c j b) r = ∅ := fun r hr => by
  rw [duties_eq, kind_rcv]; exact if_neg (by unfold hopR at h ⊢; omega)
theorem later_crd (c : Dev nD) (j : Fin 4) : ∀ r, 14 ≤ r → (Rd X Y).duties (crdCell c j) r = ∅ := fun r hr => by
  rw [duties_eq, kind_crd]; exact if_neg (by omega)
theorem later_bar (c : Dev nD) : ∀ r, 1 ≤ r → (Rd X Y).duties (barCell c) r = ∅ := fun r hr => by
  rw [duties_eq, kind_bar]; exact if_neg (by omega)

end Contents

/-! ## What a device owes, and the levels -/

structure Pay where
  g : GSem nD τ sig
  ix : ℕ
  amt : ℕ

def owedL : List Pay → CellTallies nD τ sig ℕ
  | [] => 0
  | p :: ps => owedL ps + tallyAt p.g p.ix p.amt

theorem owedL_pos {ps : List Pay} {g : GSem nD τ sig} {u : ℕ} (h : 0 < owedL ps g u) : ∃ p ∈ ps, p.g = g ∧ p.ix = u := by
  induction ps with
  | nil => exact absurd h (Nat.lt_irrefl 0)
  | cons p ps ih =>
    rw [owedL, Pi.add_apply, Finsupp.add_apply, tallyAt_apply] at h
    by_cases hp : g = p.g ∧ u = p.ix
    · exact ⟨p, List.mem_cons_self, hp.1.symm, hp.2.symm⟩
    · rw [if_neg hp, Nat.add_zero] at h
      obtain ⟨q, hq, h'⟩ := ih h
      exact ⟨q, List.mem_cons_of_mem _ hq, h'⟩

def L (g : GSem nD τ sig) : Finset ℕ := if g.1.2 = .tc then Finset.range 16 else ∅
def lvK (k : Kind) (u : ℕ) : ℕ := match k with
  | .bar => 1
  | .rcv j b => 2 + 8 * hopR b u + 2 * j.val
  | .crd j => 3 + 8 * u + 2 * j.val
  | _ => 0
def lv (g : GSem nD τ sig) (u : ℕ) : ℕ := lvK (kind g.2) u
theorem L_of_ne (g : GSem nD τ sig) (h : g.1.2 ≠ .tc) : L g = ∅ := if_neg h
theorem mem_L {g : GSem nD τ sig} (h : g.1.2 = .tc) {u : ℕ} (hu : u < 16) : u ∈ L g := by
  unfold L; rw [if_pos h]; exact Finset.mem_range.mpr hu

/-- Every payment of the list is above level `k`. -/
def Above (k : ℕ) (ps : List Pay) : Prop := ∀ p ∈ ps, p.g.1.2 = .tc ∧ p.ix < 16 ∧ k < lv p.g p.ix
theorem Above.nil (k : ℕ) : Above k [] := fun _ h => absurd h List.not_mem_nil
theorem Above.cons {k : ℕ} {p : Pay} {ps : List Pay} (h : p.g.1.2 = .tc ∧ p.ix < 16 ∧ k < lv p.g p.ix) (hs : Above k ps) : Above k (p :: ps) :=
  fun q hq => by rcases List.mem_cons.mp hq with rfl | hq; exacts [h, hs q hq]
theorem Above.mono {k k' : ℕ} {ps : List Pay} (h : Above k ps) (hk : k' ≤ k) : Above k' ps :=
  fun p hp => ⟨(h p hp).1, (h p hp).2.1, lt_of_le_of_lt hk (h p hp).2.2⟩

omit [FloatOps F] in
/-- A device may wait on a cell that lies below everything it still owes. -/
theorem mayWait (c : Dev nD) (sm : SemLoc sig) (u k : ℕ) (ps : List Pay) (hu : u < 16) (hk : lvK (kind sm) u ≤ k) (h : Above k ps) :
    (levAts L lv : sProp 𝕄) ⊢ MayWait (c : Thread nD τ) sm u (owedL ps) :=
  MayOwe.of_cut (L := L) (lev := lv) k
    (fun p hp => by rw [Finset.mem_singleton.mp hp]; exact mem_L rfl hu)
    (fun g v hg => by
      obtain ⟨p, hp, rfl, rfl⟩ := owedL_pos hg
      exact mem_L (h p hp).1 (h p hp).2.1)
    (fun p hp => by rw [Finset.mem_singleton.mp hp]; exact hk)
    (fun g v hg => by
      obtain ⟨p, hp, rfl, rfl⟩ := owedL_pos hg
      exact (h p hp).2.2)

def payCrd (c : Dev nD) (j : Fin 4) (s : ℕ) : Pay := ⟨crdCell (ups j c) j, s, 1⟩
def payRcv (c : Dev nD) (j : Fin 4) (h : ℕ) : Pay := ⟨rcvCell (tgt j c) j (nb (par h)), h / 2, N⟩
def payBar (n : Dev nD) : Pay := ⟨barCell n, 0, 1⟩

theorem lv_crd (c : Dev nD) (j : Fin 4) (s : ℕ) : lv (crdCell c j) s = 3 + 8 * s + 2 * j.val := by unfold lv; rw [kind_crd]; rfl
theorem lv_rcv (c : Dev nD) (j : Fin 4) (h : ℕ) : lv (rcvCell c j (nb (par h))) (h / 2) = 2 + 8 * h + 2 * j.val := by
  unfold lv; rw [kind_rcv]; show 2 + 8 * hopR _ _ + _ = _; rw [hopR_at]

/-- What chain `j`'s exchange of step `s` pays. -/
def payHop (c : Dev nD) (j : Fin 4) (s : ℕ) (ps : List Pay) : List Pay := payCrd c j s :: payRcv c j (s + 1) :: ps
def payStep (c : Dev nD) (s : ℕ) (ps : List Pay) : List Pay := payHop c 0 s (payHop c 1 s (payHop c 2 s (payHop c 3 s ps)))
/-- What steps `14 - n` to 13 pay. -/
def paySteps (c : Dev nD) : ℕ → List Pay
  | 0 => []
  | n + 1 => payStep c (13 - n) (paySteps c n)
def payStart (c : Dev nD) : List Pay := payRcv c 0 0 :: payRcv c 1 0 :: payRcv c 2 0 :: payRcv c 3 0 :: paySteps c 14
def payAll (c : Dev nD) : List Pay := payBar (lft c) :: payBar (rgt c) :: payStart c

theorem Above.rcv {k : ℕ} {ps : List Pay} (c : Dev nD) (j : Fin 4) (h : ℕ) (hh : h < 15) (hk : k < 2 + 8 * h + 2 * j.val) (hs : Above k ps) :
    Above k (payRcv c j h :: ps) :=
  Above.cons ⟨rfl, by show h / 2 < 16; omega, by show k < lv (rcvCell _ _ _) (h / 2); rw [lv_rcv]; exact hk⟩ hs
theorem Above.crd {k : ℕ} {ps : List Pay} (c : Dev nD) (j : Fin 4) (s : ℕ) (hh : s < 15) (hk : k < 3 + 8 * s + 2 * j.val) (hs : Above k ps) :
    Above k (payCrd c j s :: ps) :=
  Above.cons ⟨rfl, by show s < 16; omega, by show k < lv (crdCell _ _) s; rw [lv_crd]; exact hk⟩ hs
theorem Above.hop {k : ℕ} {ps : List Pay} (c : Dev nD) (j : Fin 4) (s : ℕ) (hh : s < 14) (hk : k < 3 + 8 * s + 2 * j.val) (hs : Above k ps) :
    Above k (payHop c j s ps) :=
  Above.crd c j s (by omega) hk (Above.rcv c j (s + 1) (by omega) (by omega) hs)
theorem Above.steps (c : Dev nD) : ∀ (n k : ℕ), n ≤ 14 → k < 3 + 8 * (14 - n) → Above k (paySteps c n)
  | 0, k, _, _ => Above.nil k
  | n + 1, k, hn, hk => by
    have h0 : ((0 : Fin 4) : Fin 4).val = 0 := rfl
    refine Above.hop c 0 _ (by omega) (by omega) (Above.hop c 1 _ (by omega) (by omega)
      (Above.hop c 2 _ (by omega) (by omega) (Above.hop c 3 _ (by omega) (by omega) (Above.steps c n k (by omega) (by omega)))))
theorem Above.start (c : Dev nD) : Above 1 (payStart c) :=
  Above.rcv c 0 0 (by omega) (by omega) (Above.rcv c 1 0 (by omega) (by omega) (Above.rcv c 2 0 (by omega) (by omega)
    (Above.rcv c 3 0 (by omega) (by omega) (Above.steps c 14 1 le_rfl (by omega)))))
theorem Above.all (c : Dev nD) : Above 0 (payAll c) := by
  have hb : ∀ n : Dev nD, (payBar n).g.1.2 = .tc ∧ (payBar n).ix < 16 ∧ 0 < lv (payBar n).g (payBar n).ix := fun n =>
    ⟨rfl, by show 0 < 16; omega, by show 0 < lvK (kind (.reg barS)) 0; rw [kind_bar]; exact Nat.one_pos⟩
  exact Above.cons (hb _) (Above.cons (hb _) ((Above.start c).mono (by omega)))

end Cert.KernelIdeal.Chain

end
-- ==== Proof.Hops.lean ====
/-
The rules of one exchange: a wait, a credit, a copy of a slot, and, made of these, one chain's first copy,
one chain's exchange of step `s`, one chain's last step. Each is stated at a symbolic device, chain and step.
-/
module

public import proofs.«01_k».proof.Proof.Sched

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))
variable (K : Dev nD × Fin 21 → ℕ)

abbrev 𝒱₀ : Variants := Variants.none

/-- A program of device `c`, run to the postcondition `Q`. -/
abbrev WP (c : Dev nD) {α : Type} (p : PG F α) (Q : α → sProp 𝕄) : sProp 𝕄 :=
  wp frame (wpE (defs₀ (F := F)) 𝒱₀ (c : Thread nD τ) none) Set.univ p Q

theorem WP_ret (c : Dev nD) {α : Type} {a : α} {Q : α → sProp 𝕄} : Q a ⊢ WP c (.ret a) Q := by
  show _ ⊢ wp frame (wpE (defs₀ (F := F)) 𝒱₀ (c : Thread nD τ) none) Set.univ (.ret a) Q
  rw [wp_ret]; exact fupd_intro
theorem WP_bind (c : Dev nD) {α β : Type} {p : PG F α} {k : α → PG F β} {Q : β → sProp 𝕄} :
    WP c p (fun a => WP c (k a) Q) ⊢ WP c (p >>= k) Q := by
  show _ ⊢ wp frame (wpE (defs₀ (F := F)) 𝒱₀ (c : Thread nD τ) none) Set.univ (p >>= k) Q
  rw [wp_bind]

/-- What every device knows: the invariants of all cells, that each is at its first round, the levels. -/
def allInv : sProp 𝕄 := bigSep Finset.univ fun ck : Dev nD × Fin 21 => cellInv ER (Rd X Y) (K ck) (kcell ck)
def allReach : sProp 𝕄 := bigSep Finset.univ fun ck : Dev nD × Fin 21 => reached ER (kcell ck) 0
def Ctx : sProp 𝕄 := iprop(allInv X Y K ∗ allReach (F := F) ∗ levAts L lv)
instance Ctx_persistent : BI.Persistent (Ctx X Y K) := by unfold Ctx allInv allReach; infer_instance

theorem inv_get (ck : Dev nD × Fin 21) : Ctx X Y K ⊢ cellInv ER (Rd X Y) (K ck) (kcell ck) := by
  have h : allInv X Y K ⊢ cellInv ER (Rd X Y) (K ck) (kcell ck) := bigSep_elim (Finset.mem_univ ck)
  unfold Ctx
  iintro ⟨H, -⟩
  iapply h; iexact H
theorem reach_get (ck : Dev nD × Fin 21) : Ctx X Y K ⊢ reached ER (kcell ck) 0 := by
  have h : allReach (F := F) ⊢ reached ER (kcell ck) 0 := bigSep_elim (Finset.mem_univ ck)
  unfold Ctx
  iintro ⟨-, H, -⟩
  iapply h; iexact H
theorem lev_get : Ctx X Y K ⊢ (levAts L lv : sProp 𝕄) := by
  unfold Ctx
  iintro ⟨-, -, H⟩
  iexact H
theorem inv_snd (c : Dev nD) (j b) : Ctx X Y K ⊢ cellInv ER (Rd X Y) (K (c, kS j b)) (sndCell c j b) :=
  (inv_get X Y K (c, kS j b)).trans (Entails.of_eq (by show cellInv _ _ _ ((c : Thread nD τ), csem (kS j b)) = _; rw [csem_S]))
theorem inv_rcv (c : Dev nD) (j b) : Ctx X Y K ⊢ cellInv ER (Rd X Y) (K (c, kR j b)) (rcvCell c j b) :=
  (inv_get X Y K (c, kR j b)).trans (Entails.of_eq (by show cellInv _ _ _ ((c : Thread nD τ), csem (kR j b)) = _; rw [csem_R]))
theorem inv_crd (c : Dev nD) (j) : Ctx X Y K ⊢ cellInv ER (Rd X Y) (K (c, kC j)) (crdCell c j) :=
  (inv_get X Y K (c, kC j)).trans (Entails.of_eq (by show cellInv _ _ _ ((c : Thread nD τ), csem (kC j)) = _; rw [csem_C]))
theorem inv_bar (c : Dev nD) : Ctx X Y K ⊢ cellInv ER (Rd X Y) (K (c, kB)) (barCell c) :=
  (inv_get X Y K (c, kB)).trans (Entails.of_eq (by show cellInv _ _ _ ((c : Thread nD τ), csem kB) = _; rw [csem_B]))
theorem reach_rcv (c : Dev nD) (j b) : Ctx X Y K ⊢ reached ER (rcvCell c j b) 0 :=
  (reach_get X Y K (c, kR j b)).trans (Entails.of_eq (by show reached _ ((c : Thread nD τ), csem (kR j b)) _ = _; rw [csem_R]))
theorem reach_snd (c : Dev nD) (j b) : Ctx X Y K ⊢ reached ER (sndCell c j b) 0 :=
  (reach_get X Y K (c, kS j b)).trans (Entails.of_eq (by show reached _ ((c : Thread nD τ), csem (kS j b)) _ = _; rw [csem_S]))
theorem reach_crd (c : Dev nD) (j) : Ctx X Y K ⊢ reached ER (crdCell c j) 0 :=
  (reach_get X Y K (c, kC j)).trans (Entails.of_eq (by show reached _ ((c : Thread nD τ), csem (kC j)) _ = _; rw [csem_C]))
theorem reach_bar (c : Dev nD) : Ctx X Y K ⊢ reached ER (barCell c) 0 :=
  (reach_get X Y K (c, kB)).trans (Entails.of_eq (by show reached _ ((c : Thread nD τ), csem kB) _ = _; rw [csem_B]))

/-- What a device owes, whatever it has waited for. -/
def owing (c : Dev nD) (ps : List Pay) : sProp 𝕄 := iprop(∃ W, owes (c : Thread nD τ) (owedL ps) W)
/-- A cell's owner at the start of round `R`. -/
abbrev atR (g : GSem nD τ sig) (R : ℕ) : sProp 𝕄 := iprop(atPos ER g R ∅ 0 ∗ reached ER g R)

/-! ## Waits -/

set_option maxRecDepth 10000 in
/-- A wait for a whole round of one's own cell, whose payload is `P`. -/
theorem wp_waitG (c : Dev nD) {sm : SemLoc sig} {q : Fin 21} (hq : csem q = sm) {R lvl n : ℕ} {ps : List Pay} {P : sProp 𝕄}
    (hexp : (Rd X Y).expect ((c : Thread nD τ), sm) R = n)
    (hrest : bigSep ((Rd X Y).duties ((c : Thread nD τ), sm) R \ ∅) (fun d => (Rd X Y).payload ((c : Thread nD τ), sm) R d) = P)
    (hR : R < 16) (hl : lvK (kind sm) R ≤ lvl) (ha : Above lvl ps)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ sm n Kt)
    {α : Type} {Q : α → sProp 𝕄} {k : PUnit → PG F α} :
    iprop(Ctx X Y K ∗ cred (tallyAt ((c : Thread nD τ), sm) R n) ∗ owing c ps ∗ atR ((c : Thread nD τ), sm) R)
      ⊢ iprop(((owing c ps ∗ atR ((c : Thread nD τ), sm) (R + 1) ∗ P) -∗ WP c (k ⟨⟩) Q) -∗ WP c (.op w k) Q) := by
  have hm0 : (levAts L lv : sProp 𝕄) ⊢ MayWait (c : Thread nD τ) sm R (owedL ps) := by
    have := mayWait (F := F) c sm R lvl ps hR hl ha
    exact this
  have hm : Ctx X Y K ⊢ MayWait (c : Thread nD τ) sm R (owedL ps) := (lev_get X Y K).trans hm0
  have hi : Ctx X Y K ⊢ cellInv ER (Rd X Y) (K (c, q)) ((c : Thread nD τ), sm) := by
    subst hq; exact inv_get X Y K (c, q)
  unfold owing
  iintro ⟨#HC, Hc, ⟨%W, HO⟩, ⟨Hat, -⟩⟩ Hk
  iapply (Rounds.wp_wait_rest_token 𝒱₀ ER (Rd X Y) (c : Thread nD τ) none (κ := K (c, q)) hw (Set.mem_univ _) R
      (O := owedL ps) (W := W) (R := R) (m := 0) (T := ∅) (by rw [Nat.zero_add, hexp])) $$ [Hc HO Hat]
  · isplitr; · iapply hi; iexact HC
    isplitl [Hc]; · iexact Hc
    isplitl [HO]; · iexact HO
    isplitr; · iapply hm; iexact HC
    iexact Hat
  iintro ⟨HO, Hat, Hr, Hpay⟩
  iapply Hk
  isplitl [HO]; · iexists _; iexact HO
  isplitl [Hat Hr]
  · isplitl [Hat]; · iexact Hat
    iexact Hr
  iapply (Entails.of_eq hrest); iexact Hpay

section Chains
variable (c : Dev nD) (j : Fin 4) (s : ℕ) {ps : List Pay}

/-- The wait for hop `s`, still owing only what comes after it. -/
theorem wp_waitR (hs : s < 15) (ha : Above (2 + 8 * s + 2 * j.val) ps) {α : Type} {Q : α → sProp 𝕄} {k : PUnit → PG F α} :
    iprop(Ctx X Y K ∗ cred (tallyAt (rcvCell c j (nb (par s))) (s / 2) N) ∗ owing c ps ∗ atR (rcvCell c j (nb (par s))) (s / 2))
      ⊢ iprop(((owing c ps ∗ atR (rcvCell c j (nb (par s))) (s / 2 + 1) ∗ rcvPay X Y c j (nb (par s)) s) -∗ WP c (k ⟨⟩) Q)
          -∗ WP c (waitR j (par s) k) Q) :=
  wp_waitG X Y K c (csem_R j (nb (par s))) (expect_rcv X Y c j s hs) (rest_rcv X Y c j s hs) (by omega)
    (by rw [kind_rcv]; show 2 + 8 * hopR _ _ + _ ≤ _; rw [hopR_at]) ha
    (fun Kt => (wpE_waitDma2_eq 𝒱₀ (c : Thread nD τ) none Set.univ Kt).trans (by rw [N_eq]))

/-- The wait for hop `s` to have left. -/
theorem wp_waitS (hs : s < 15) (ha : Above 0 ps) {α : Type} {Q : α → sProp 𝕄} {k : PUnit → PG F α} :
    iprop(Ctx X Y K ∗ cred (tallyAt (sndCell c j (par s)) (s / 2) N) ∗ owing c ps ∗ atR (sndCell c j (par s)) (s / 2))
      ⊢ iprop(((owing c ps ∗ atR (sndCell c j (par s)) (s / 2 + 1) ∗ slotA c j (par s)) -∗ WP c (k ⟨⟩) Q)
          -∗ WP c (waitS j (par s) k) Q) :=
  wp_waitG X Y K c (csem_S j (par s)) (expect_snd X Y c j s hs) (rest_snd X Y c j s hs) (by omega)
    (by rw [kind_snd]; exact le_rfl) ha
    (fun Kt => (wpE_waitDma2_eq 𝒱₀ (c : Thread nD τ) none Set.univ Kt).trans (by rw [N_eq]))

/-- The wait for the credit of step `s`. -/
theorem wp_waitC (hs : s < 14) (ha : Above (3 + 8 * s + 2 * j.val) ps) {α : Type} {Q : α → sProp 𝕄} {k : PUnit → PG F α} :
    iprop(Ctx X Y K ∗ cred (tallyAt (crdCell c j) s 1) ∗ owing c ps ∗ atR (crdCell c j) s)
      ⊢ iprop(((owing c ps ∗ atR (crdCell c j) (s + 1) ∗ crdPay (F := F) c j s) -∗ WP c (k ⟨⟩) Q)
          -∗ WP c (waitW (crdS j) 1 k) Q) :=
  wp_waitG X Y K c (csem_C j) (expect_crd X Y c j s hs) (rest_crd X Y c j s hs) (by omega)
    (by rw [kind_crd]; exact le_rfl) ha
    (fun Kt => wpE_semWait_eq 𝒱₀ (c : Thread nD τ) none Set.univ Kt)

/-- The wait at the barrier. -/
theorem wp_waitB (ha : Above 1 ps) {α : Type} {Q : α → sProp 𝕄} {k : PUnit → PG F α} :
    iprop(Ctx X Y K ∗ cred (tallyAt (barCell c) 0 2) ∗ owing c ps ∗ atR (barCell c) 0)
      ⊢ iprop(((owing c ps ∗ atR (barCell c) (0 + 1) ∗ (barPay (F := F) c false ∗ barPay c true)) -∗ WP c (k ⟨⟩) Q)
          -∗ WP c (waitW barS 2 k) Q) :=
  wp_waitG X Y K c csem_B (expect_bar X Y c) (rest_bar X Y c) (by omega)
    (by rw [kind_bar]; exact le_rfl) ha
    (fun Kt => wpE_semWait_eq 𝒱₀ (c : Thread nD τ) none Set.univ Kt)

/-! ## Signals -/

theorem wp_sigC (hs : s < 14) {α : Type} {Q : α → sProp 𝕄} {k : PUnit → PG F α} :
    iprop(Ctx X Y K ∗ owing c (payCrd c j s :: ps) ∗ dutyTok ER (crdCell (ups j c) j) s false ∗ crdPay (F := F) (ups j c) j s
        ∗ reached ER (crdCell (ups j c) j) s)
      ⊢ iprop((owing c ps -∗ WP c (k ⟨⟩) Q) -∗ WP c (sigW (ups j c) (crdS j) k) Q) := by
  unfold owing
  iintro ⟨#HC, ⟨%W, HO⟩, Ht, Hp, Hr⟩ Hk
  iapply (Rounds.wp_signal 𝒱₀ ER (Rd X Y) (c : Thread nD τ) none (dst := (ups j c : Thread nD τ)) (sem := crdS j) (κ := K (ups j c, kC j))
      (d := false) (r := s) (by rw [duties_crd X Y _ j s hs]; exact Finset.mem_singleton_self _) (amount_crd X Y (ups j c) j s false) s
      (owedL ps) rfl) $$ [HO Ht Hp Hr]
  · isplitr; · iapply (inv_crd X Y K (ups j c) j); iexact HC
    isplitl [HO]; · iexact HO
    isplitl [Ht]; · iexact Ht
    isplitl [Hp]; · rw [payload_crd]; iexact Hp
    iexact Hr
  iintro HO
  iapply Hk
  iexists _; iexact HO

theorem wp_sigB (n : Dev nD) (d : Bool) {α : Type} {Q : α → sProp 𝕄} {k : PUnit → PG F α} :
    iprop(Ctx X Y K ∗ owing c (payBar n :: ps) ∗ dutyTok ER (barCell n) 0 d ∗ barPay (F := F) n d)
      ⊢ iprop((owing c ps -∗ WP c (k ⟨⟩) Q) -∗ WP c (sigW n barS k) Q) := by
  unfold owing
  iintro ⟨#HC, ⟨%W, HO⟩, Ht, Hp⟩ Hk
  iapply (Rounds.wp_signal 𝒱₀ ER (Rd X Y) (c : Thread nD τ) none (dst := (n : Thread nD τ)) (sem := barS) (κ := K (n, kB))
      (d := d) (r := 0) (by rw [duties_bar X Y n]; exact Finset.mem_univ _) (amount_bar X Y n 0 d) 0
      (owedL ps) rfl) $$ [HO Ht Hp]
  · isplitr; · iapply (inv_bar X Y K n); iexact HC
    isplitl [HO]; · iexact HO
    isplitl [Ht]; · iexact Ht
    isplitl [Hp]; · rw [payload_bar]; iexact Hp
    iapply (reach_bar X Y K n); iexact HC
  iintro HO
  iapply Hk
  iexists _; iexact HO

/-! ## The copy of hop `h` -/

/-- The rights to pay hop `h`: on the own send cell and on the target's receive cell. -/
def hopTok (c : Dev nD) (j : Fin 4) (h : ℕ) : sProp 𝕄 :=
  iprop(dutyTok ER (sndCell c j (par h)) (h / 2) false ∗ dutyTok ER (rcvCell (tgt j c) j (nb (par h))) (h / 2) false)

omit [FloatOps F] in
theorem slotM_loc (c : Dev nD) (j b) : (slotM j b).view.loc (c : Thread nD τ) = (slotV j b).loc (c : Thread nD τ) := rfl

/-- A copy of a slot carries its value. -/
theorem slotM_copy (j : Fin 4) (b b' : Fin 2) (f : (slotV j b).ty.Contents (Elt F)) (g : (slotV j b').ty.Contents (Elt F)) :
    (slotV j b').read (Elt F) ((slotM j b').view.write (Elt F) g ((slotM j b).view.read (Elt F) f) Finset.univ)
      = (slotV j b).read (Elt F) f :=
  slotM_read_inj j b' b ((slotM j b').view.write (Elt F) g ((slotM j b).view.read (Elt F) f) Finset.univ) f
    (View.read_write_univ (v := (slotM j b').view) g ((slotM j b).view.read (Elt F) f))

/-- The copy of slot `par h`, holding the value of hop `h`, to the target's other slot. -/
theorem wp_sendB (hs : s < 15) {α : Type} {Q : α → sProp 𝕄} {k : PUnit → PG F α} :
    iprop(Ctx X Y K ∗ slotP c j (par s) (val X Y j s c) ∗ slotA (tgt j c) j (nb (par s)) ∗ reached ER (crdCell c j) s
        ∗ owing c (payRcv c j s :: ps) ∗ hopTok c j s ∗ reached ER (sndCell c j (par s)) (s / 2)
        ∗ reached ER (rcvCell (tgt j c) j (nb (par s))) (s / 2))
      ⊢ iprop(((cred (tallyAt (sndCell c j (par s)) (s / 2) N) ∗ owing c ps) -∗ WP c (k ⟨⟩) Q)
          -∗ WP c (sendB j (par s) (tgt j c) k) Q) := by
  unfold owing hopTok slotP slotA slotF
  iintro ⟨#HC, ⟨%f, %hf, Hs⟩, ⟨%g, Hd⟩, Hrc, ⟨%W, HO⟩, ⟨Hts, Htr⟩, Hrs, Hrr⟩ Hk
  rw [← slotM_set j (par s), ← slotM_set j (nb (par s))]
  iapply (Rounds.wp_send_pointsTo_with 𝒱₀ ER (Rd X Y) (c : Thread nD τ) none (c' := (tgt j c : Thread nD τ))
      (src := slotM j (par s)) (dst := slotM j (nb (par s))) (sS := .dma (sndS j (par s))) (sem := .dma (rcvS j (nb (par s))))
      (fs := f) (fd := g) (F := reached ER (crdCell c j) s)
      (κ₁ := K (c, kS j (par s))) (κ₂ := K (tgt j c, kR j (nb (par s))))
      (r₁ := s / 2) (r₂ := s / 2) (d₁ := false) (d₂ := false)
      (by rw [duties_snd X Y c j s hs]; exact Finset.mem_singleton_self _)
      (by rw [duties_rcv X Y (tgt j c) j s hs]; exact Finset.mem_singleton_self _)
      (s / 2) (s / 2) N (N_eq j (nb (par s))) (amount_snd X Y c j (par s) _ false) (amount_rcv X Y (tgt j c) j (nb (par s)) _ false)
      (owedL ps) rfl (W := W)
      (by rw [payload_snd, slotM_set]; exact slotA_of_slotF c j (par s) f)
      (by
        rw [payload_rcv, slotM_set]
        unfold rcvPay slotP
        rw [ups_tgt]
        iintro ⟨H, Hr⟩
        isplitl [H]
        · iexists _
          isplitr
          · ipureintro
            exact (slotM_copy j (par s) (nb (par s)) f g).trans hf
          unfold slotF
          iexact H
        · iexact Hr)) $$ [Hs Hd Hrc HO Hts Htr Hrs Hrr]
  · isplitr; · iapply (inv_snd X Y K c j (par s)); iexact HC
    isplitr; · iapply (inv_rcv X Y K (tgt j c) j (nb (par s))); iexact HC
    isplitl [Hs]; · iexact Hs
    isplitl [Hd Hrc]
    · isplitl [Hd]; · iexact Hd
      iexact Hrc
    isplitl [HO]; · iexact HO
    isplitl [Hts]; · iexact Hts
    isplitl [Hrs]; · iexact Hrs
    isplitl [Htr]; · iexact Htr
    iexact Hrr
  iintro ⟨Hc, HO⟩
  iapply Hk
  isplitl [Hc]; · iexact Hc
  iexists _; iexact HO

/-! ## Loads and stores of a slot -/

variable (b : Fin 2)

theorem wp_loadB {v : FVec F S1x512x1024 .bf16} {α : Type} {Q : α → sProp 𝕄} {k : Vec F S1x512x1024 .bf16 → PG F α} :
    slotP c j b v ⊢ iprop((slotP c j b v -∗ WP c (k v) Q) -∗ WP c (loadB j b k) Q) := by
  unfold slotP slotF
  iintro ⟨%f, %hf, H⟩ Hk
  iapply (wp_load_rect 𝒱₀ (c : Thread nD τ) none Set.univ (m := bufM j) (r := slotR b) (Finset.Subset.refl _)) $$ H
  iintro H
  rw [hf]
  iapply Hk
  iexists f
  isplitr; · ipureintro; exact hf
  iexact H

theorem wp_loadB_any {α : Type} {Q : α → sProp 𝕄} {k : Vec F S1x512x1024 .bf16 → PG F α} :
    slotA (F := F) c j b ⊢ iprop((∀ v, slotA c j b -∗ WP c (k v) Q) -∗ WP c (loadB j b k) Q) := by
  unfold slotA slotF
  iintro ⟨%f, H⟩ Hk
  iapply (wp_load_rect 𝒱₀ (c : Thread nD τ) none Set.univ (m := bufM j) (r := slotR b) (Finset.Subset.refl _)) $$ H
  iintro H
  iapply Hk
  iexists f
  iexact H

theorem slotA_of_slotP {v : FVec F S1x512x1024 .bf16} : slotP c j b v ⊢ slotA c j b := by
  unfold slotP slotA
  iintro ⟨%f, -, H⟩
  iexists f
  iexact H

theorem wp_storeB {v : FVec F S1x512x1024 .bf16} {α : Type} {Q : α → sProp 𝕄} {k : PUnit → PG F α} :
    slotA c j b ⊢ iprop((slotP c j b v -∗ WP c (k ⟨⟩) Q) -∗ WP c (storeB j b v k) Q) := by
  unfold slotA slotP slotF
  iintro ⟨%f, H⟩ Hk
  iapply (wp_store 𝒱₀ (c : Thread nD τ) none Set.univ (m := bufM j) (r := slotR b) (Mk := Finset.univ) (S := (slotV j b).set) (Finset.Subset.refl _)) $$ H
  iintro H
  iapply Hk
  iexists ((slotV j b).write (Elt F) f v Finset.univ)
  isplitr; · ipureintro; exact View.read_write_univ (v := slotV j b) f v
  iexact H

/-! ## The staged blocks -/

/-- The device's blocks of the two inputs, as staged. -/
def XW (c : Dev nD) : sProp 𝕄 :=
  iprop((((c : Thread nD τ).loc cc0_stg0_0) ↦{fullShare} X c) ∗ (((c : Thread nD τ).loc cc0_stg1_0) ↦{fullShare} Y c))

theorem wp_loadX {off : Fin 2 → ℕ} {h : ∀ a, off a + S512x512.size a ≤ S8192x512.size a} {α : Type} {Q : α → sProp 𝕄} {k : Vec F S512x512 .bf16 → PG F α} :
    XW X Y c ⊢ iprop((XW X Y c -∗ WP c (k ((xM : Memref sig .tc .vmem S8192x512 .bf16).view.readAt (Elt F) (Rect.unit (s := S8192x512) off S512x512.size h).toLoadRect (X c))) Q)
      -∗ WP c (loadX off h k) Q) := by
  unfold XW
  iintro ⟨HX, HW⟩ Hk
  iapply (wp_load 𝒱₀ (c : Thread nD τ) none Set.univ (m := xM) (Finset.subset_univ _)) $$ HX
  iintro HX
  iapply Hk
  isplitl [HX]; · iexact HX
  iexact HW

theorem wp_loadW {α : Type} {Q : α → sProp 𝕄} {k : Vec F S512x1024 .bf16 → PG F α} :
    XW X Y c ⊢ iprop((XW X Y c -∗ WP c (k ((wM : Memref sig .tc .vmem S512x4096 .bf16).view.readAt (Elt F) (colR j).toLoadRect (Y c))) Q)
      -∗ WP c (loadW j k) Q) := by
  unfold XW
  iintro ⟨HX, HW⟩ Hk
  iapply (wp_load 𝒱₀ (c : Thread nD τ) none Set.univ (m := wM) (Finset.subset_univ _)) $$ HW
  iintro HW
  iapply Hk
  isplitl [HX]; · iexact HX
  iexact HW

theorem wp_prodC (t : Fin 15) {Q : FVec F S512x1024 .f32 → sProp 𝕄} :
    XW X Y c ⊢ iprop((XW X Y c -∗ Q (prodS X Y j c t)) -∗ WP c (prodC j c t) Q) := by
  unfold prodC prodS prodAt
  iintro HX Hk
  iapply (wp_loadX X Y c) $$ HX
  iintro HX
  iapply (wp_loadW X Y c j) $$ HX
  iintro HX
  iapply (WP_ret c)
  iapply Hk
  iexact HX

/-! ## One chain's programs -/

/-- The right to receive hop `h`. -/
def hopCr (c : Dev nD) (j : Fin 4) (h : ℕ) : sProp 𝕄 := cred (tallyAt (rcvCell c j (nb (par h))) (h / 2) N)
/-- A chain between two exchanges: hop `s` is on its way. -/
def St (c : Dev nD) (j : Fin 4) (s : ℕ) : sProp 𝕄 :=
  iprop(atR (rcvCell c j (nb (par s))) (s / 2) ∗ atR (rcvCell c j (par s)) ((s + 1) / 2)
    ∗ atR (sndCell c j (par s)) (s / 2) ∗ atR (sndCell c j (nb (par s))) ((s + 1) / 2)
    ∗ atR (crdCell c j) s ∗ cred (tallyAt (sndCell c j (par s)) (s / 2) N) ∗ hopCr c j s)
/-- What the exchange of step `s` uses up. -/
def Tk (c : Dev nD) (j : Fin 4) (s : ℕ) : sProp 𝕄 :=
  iprop((cred (tallyAt (crdCell c j) s 1) ∗ hopCr c j (s + 1)) ∗ dutyTok ER (crdCell (ups j c) j) s false ∗ hopTok c j (s + 1))
/-- A chain before its first copy. -/
def St0 (c : Dev nD) (j : Fin 4) : sProp 𝕄 :=
  iprop(atR (rcvCell c j 1) 0 ∗ atR (rcvCell c j 0) 0 ∗ atR (sndCell c j 0) 0 ∗ atR (sndCell c j 1) 0 ∗ atR (crdCell c j) 0)

/-- A chain's first product, stored in slot 0 and sent to the target's slot 1. -/
theorem wp_startC {Q : PUnit → sProp 𝕄} :
    iprop(Ctx X Y K ∗ XW X Y c ∗ St0 c j ∗ slotA c j 0 ∗ openPay (F := F) c j ∗ owing c (payRcv c j 0 :: ps) ∗ hopTok c j 0
        ∗ hopCr c j 0)
      ⊢ iprop(((XW X Y c ∗ St c j 0 ∗ owing c ps) -∗ Q ⟨⟩) -∗ WP c (startC j c) Q) := by
  unfold startC St0 openPay
  iintro ⟨#HC, HX, ⟨Hr1, Hr0, ⟨Hs0, #Hss⟩, Hs1, ⟨Hcr, #Hrc⟩⟩, Hsl, ⟨Hd, Hrd⟩, HO, Ht, Hv⟩ Hk
  iapply (wp_loadX X Y c) $$ HX
  iintro HX
  iapply (wp_loadW X Y c j) $$ HX
  iintro HX
  iapply (wp_loadB_any c j 0) $$ Hsl
  iintro %v Hsl
  iapply (wp_storeB c j 0) $$ Hsl
  iintro Hsl
  iapply (wp_sendB X Y K c j 0 (by omega)) $$ [Hsl Hd Hrd HO Ht]
  · isplitr; · iexact HC
    isplitl [Hsl]; · iexact Hsl
    isplitl [Hd]; · iexact Hd
    isplitr; · iexact Hrc
    isplitl [HO]; · iexact HO
    isplitl [Ht]; · iexact Ht
    isplitr; · iexact Hss
    iexact Hrd
  iintro ⟨Hc, HO⟩
  iapply (WP_ret c)
  iapply Hk
  isplitl [HX]; · iexact HX
  isplitr [HO]
  · unfold St
    isplitl [Hr1]; · iexact Hr1
    isplitl [Hr0]; · iexact Hr0
    isplitl [Hs0]
    · isplitl [Hs0]; · iexact Hs0
      iexact Hss
    isplitl [Hs1]; · iexact Hs1
    isplitl [Hcr]
    · isplitl [Hcr]; · iexact Hcr
      iexact Hrc
    isplitl [Hc]; · iexact Hc
    iexact Hv
  iexact HO

/-- A chain's exchange of step `s`. -/
theorem wp_hopC (hs : s < 14) (ha : Above (3 + 8 * s + 2 * j.val) ps) {Q : PUnit → sProp 𝕄} :
    iprop(Ctx X Y K ∗ St c j s ∗ Tk c j s ∗ owing c (payHop c j s ps))
      ⊢ iprop(((St c j (s + 1) ∗ owing c ps) -∗ Q ⟨⟩) -∗ WP c (hopC j c s (prodS X Y j c (step15 s))) Q) := by
  have hr : Above (3 + 8 * s + 2 * j.val) (payRcv c j (s + 1) :: ps) := Above.rcv c j (s + 1) (by omega) (by omega) ha
  have hp : Above (2 + 8 * s + 2 * j.val) (payHop c j s ps) :=
    Above.crd c j s (by omega) (by omega) (hr.mono (by omega))
  unfold hopC St Tk hopCr
  iintro ⟨#HC, ⟨Hr1, ⟨Hr0, #Hrr⟩, Hs0, ⟨Hs1, #Hss⟩, Hcr, Hcs, Hcv⟩, ⟨⟨Hcc, Hv⟩, Htc, Ht⟩, HO⟩ Hk
  iapply (wp_waitR X Y K c j s (by omega) hp) $$ [Hcv HO Hr1]
  · isplitr; · iexact HC
    isplitl [Hcv]; · iexact Hcv
    isplitl [HO]; · iexact HO
    iexact Hr1
  iintro ⟨HO, Hr1, Hpay⟩
  unfold rcvPay
  icases Hpay with ⟨Hsl, Hrcu⟩
  iapply (wp_waitS X Y K c j s (by omega) (hp.mono (by omega))) $$ [Hcs HO Hs0]
  · isplitr; · iexact HC
    isplitl [Hcs]; · iexact Hcs
    isplitl [HO]; · iexact HO
    iexact Hs0
  iintro ⟨HO, Hs0, Hfree⟩
  unfold payHop
  iapply (wp_sigC X Y K c j s hs) $$ [HO Htc Hfree Hrcu]
  · isplitr; · iexact HC
    isplitl [HO]; · iexact HO
    isplitl [Htc]; · iexact Htc
    isplitl [Hfree]
    · unfold crdPay
      rw [tgt_ups]
      isplitl [Hfree]; · iexact Hfree
      iexact Hrr
    iexact Hrcu
  iintro HO
  iapply (wp_loadB c j (nb (par s))) $$ Hsl
  iintro Hsl
  iapply (wp_loadB c j (nb (par s))) $$ Hsl
  iintro Hsl
  iapply (wp_storeB c j (nb (par s))) $$ [Hsl]
  · iapply (slotA_of_slotP c j (nb (par s))); iexact Hsl
  iintro Hsl
  iapply (wp_waitC X Y K c j s hs hr) $$ [Hcc HO Hcr]
  · isplitr; · iexact HC
    isplitl [Hcc]; · iexact Hcc
    isplitl [HO]; · iexact HO
    iexact Hcr
  unfold crdPay
  iintro ⟨HO, ⟨Hcr, #Hrc⟩, Hd, Hrd⟩
  have e1 : nb (par s) = par (s + 1) := (par_succ s).symm
  have e2 : par s = nb (par (s + 1)) := by rw [par_succ, nb_nb]
  have e3 : s / 2 + 1 = (s + 1 + 1) / 2 := (half_succ_succ s).symm
  rw [e1, e2, e3]
  iapply (wp_sendB X Y K c j (s + 1) (by omega)) $$ [Hsl Hd Hrd HO Ht]
  · isplitr; · iexact HC
    isplitl [Hsl]; · iexact Hsl
    isplitl [Hd]; · iexact Hd
    isplitr; · iexact Hrc
    isplitl [HO]; · iexact HO
    isplitl [Ht]; · iexact Ht
    isplitr; · iexact Hss
    iexact Hrd
  iintro ⟨Hc, HO⟩
  iapply (WP_ret c)
  iapply Hk
  isplitr [HO]
  · isplitl [Hr0]
    · isplitl [Hr0]; · iexact Hr0
      iexact Hrr
    isplitl [Hr1]; · iexact Hr1
    isplitl [Hs1]
    · isplitl [Hs1]; · iexact Hs1
      iexact Hss
    isplitl [Hs0]; · iexact Hs0
    isplitl [Hcr]
    · isplitl [Hcr]; · iexact Hcr
      iexact Hrc
    isplitl [Hc]; · iexact Hc
    iexact Hv
  iexact HO

end Chains

end Cert.KernelIdeal.Chain

end
-- ==== Proof.Body.lean ====
/-
The whole body of one device: the barrier, the four first copies, the fourteen exchanges, the last step, the
last waits. The exchanges are one induction over the number of steps left.
-/
module

public import proofs.«01_k».proof.Proof.Hops

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))
variable (K : Dev nD × Fin 21 → ℕ)

/-! ## The result's staged block -/

def outF (c : Dev nD) (f : (cc0_stg2_0 : Ref sig .tc).ty.Contents (Elt F)) : sProp 𝕄 := ((c : Thread nD τ).loc cc0_stg2_0) ↦{fullShare} f
/-- Chain `j`'s columns of the result written. -/
def putO (j : Fin 4) (v : FVec F S512x1024 .f32) (f : (cc0_stg2_0 : Ref sig .tc).ty.Contents (Elt F)) : (cc0_stg2_0 : Ref sig .tc).ty.Contents (Elt F) :=
  ((oM : Memref sig .tc .vmem S512x4096 .f32).access (colR j)).write (Elt F) f v Finset.univ

section Chains
variable (c : Dev nD) (j : Fin 4)

theorem wp_loadO {f} {α : Type} {Q : α → sProp 𝕄} {k : Vec F S512x1024 .f32 → PG F α} :
    outF (F := F) c f ⊢ iprop((∀ v, outF c f -∗ WP c (k v) Q) -∗ WP c (loadO j k) Q) := by
  unfold outF
  iintro H Hk
  iapply (wp_load 𝒱₀ (c : Thread nD τ) none Set.univ (m := oM) (Finset.subset_univ _)) $$ H
  iintro H
  iapply Hk
  iexact H

theorem wp_storeO {f} {v : FVec F S512x1024 .f32} {α : Type} {Q : α → sProp 𝕄} {k : PUnit → PG F α} :
    outF c f ⊢ iprop((outF c (putO j v f) -∗ WP c (k ⟨⟩) Q) -∗ WP c (storeO j v k) Q) := by
  unfold outF putO
  iintro H Hk
  iapply (wp_store 𝒱₀ (c : Thread nD τ) none Set.univ (m := oM) (r := colR j) (Mk := Finset.univ) (Finset.subset_univ _)) $$ H
  iintro H
  iapply Hk
  iexact H

/-- A chain after its last addition: its last copy is still to be seen sent. -/
def StL (c : Dev nD) (j : Fin 4) : sProp 𝕄 :=
  iprop(atR (rcvCell c j 1) 8 ∗ atR (rcvCell c j 0) 7 ∗ atR (sndCell c j 0) 7 ∗ atR (sndCell c j 1) 7 ∗ atR (crdCell c j) 14
    ∗ cred (tallyAt (sndCell c j 0) 7 N) ∗ slotA (F := F) c j 1)
/-- A chain at the end: every cell past its last round, both slots back. -/
def StE (c : Dev nD) (j : Fin 4) : sProp 𝕄 :=
  iprop(atR (rcvCell c j 1) 8 ∗ atR (rcvCell c j 0) 7 ∗ atR (sndCell c j 0) 8 ∗ atR (sndCell c j 1) 7 ∗ atR (crdCell c j) 14
    ∗ slotA (F := F) c j 0 ∗ slotA (F := F) c j 1)

omit [FloatOps F] in
theorem St_last : St (F := F) c j 14 = iprop(atR (rcvCell c j 1) 7 ∗ atR (rcvCell c j 0) 7 ∗ atR (sndCell c j 0) 7 ∗ atR (sndCell c j 1) 7
    ∗ atR (crdCell c j) 14 ∗ cred (tallyAt (sndCell c j 0) 7 N) ∗ cred (tallyAt (rcvCell c j 1) 7 N)) := rfl

theorem wp_lastC {f} {Q : PUnit → sProp 𝕄} :
    iprop(Ctx X Y K ∗ St c j 14 ∗ outF c f ∗ owing c [])
      ⊢ iprop(((StL c j ∗ outF c (putO j (outP X Y j c) f) ∗ owing c []) -∗ Q ⟨⟩) -∗ WP c (lastC j (prodS X Y j c 14)) Q) := by
  unfold lastC
  rw [St_last]
  iintro ⟨#HC, ⟨Hr1, Hr0, Hs0, Hs1, Hcr, Hcs, Hcv⟩, Hout, HO⟩ Hk
  iapply (wp_waitR X Y K c j 14 (by omega) (Above.nil _)) $$ [Hcv HO Hr1]
  · isplitr; · iexact HC
    isplitl [Hcv]; · iexact Hcv
    isplitl [HO]; · iexact HO
    iexact Hr1
  unfold rcvPay
  rw [show nb (par 14) = 1 from rfl]
  iintro ⟨HO, Hr1, Hsl, -⟩
  iapply (wp_loadB c j 1) $$ Hsl
  iintro Hsl
  iapply (wp_loadO c j) $$ Hout
  iintro %v Hout
  iapply (wp_storeO c j) $$ Hout
  iintro Hout
  iapply (WP_ret c)
  iapply Hk
  isplitr [Hout HO]
  · unfold StL
    isplitl [Hr1]; · iexact Hr1
    isplitl [Hr0]; · iexact Hr0
    isplitl [Hs0]; · iexact Hs0
    isplitl [Hs1]; · iexact Hs1
    isplitl [Hcr]; · iexact Hcr
    isplitl [Hcs]; · iexact Hcs
    iapply (slotA_of_slotP c j 1); iexact Hsl
  isplitl [Hout]; · iexact Hout
  iexact HO

/-- The last wait of a chain. -/
theorem wp_endC {α : Type} {Q : α → sProp 𝕄} {k : PUnit → PG F α} :
    iprop(Ctx X Y K ∗ StL c j ∗ owing c []) ⊢ iprop(((StE c j ∗ owing c []) -∗ WP c (k ⟨⟩) Q) -∗ WP c (waitS j 0 k) Q) := by
  unfold StL
  iintro ⟨#HC, ⟨Hr1, Hr0, Hs0, Hs1, Hcr, Hcs, Hsl⟩, HO⟩ Hk
  iapply (wp_waitS X Y K c j 14 (by omega) (Above.nil _)) $$ [Hcs HO Hs0]
  · isplitr; · iexact HC
    isplitl [Hcs]; · iexact Hcs
    isplitl [HO]; · iexact HO
    iexact Hs0
  iintro ⟨HO, Hs0, Hsl0⟩
  iapply Hk
  isplitr [HO]
  · unfold StE
    isplitl [Hr1]; · iexact Hr1
    isplitl [Hr0]; · iexact Hr0
    isplitl [Hs0]; · iexact Hs0
    isplitl [Hs1]; · iexact Hs1
    isplitl [Hcr]; · iexact Hcr
    isplitl [Hsl0]; · iexact Hsl0
    iexact Hsl
  iexact HO

end Chains

/-! ## The four chains together -/

def all4 (P : Fin 4 → sProp 𝕄) : sProp 𝕄 := iprop(P 0 ∗ P 1 ∗ P 2 ∗ P 3)

section Steps
variable (c : Dev nD)

/-- One step of the four chains. -/
theorem wp_stepC (s : ℕ) (hs : s < 14) {ps : List Pay} (ha : Above (3 + 8 * s + 6) ps) {Q : PUnit → sProp 𝕄} :
    iprop(Ctx X Y K ∗ XW X Y c ∗ all4 (fun j => St c j s) ∗ all4 (fun j => Tk c j s) ∗ owing c (payStep c s ps))
      ⊢ iprop(((XW X Y c ∗ all4 (fun j => St c j (s + 1)) ∗ owing c ps) -∗ Q ⟨⟩) -∗ WP c (stepC c (step15 s)) Q) := by
  have hv : (step15 s).val = s := Nat.mod_eq_of_lt (by omega)
  unfold stepC all4 payStep
  rw [hv]
  iintro ⟨#HC, HX, ⟨HS0, HS1, HS2, HS3⟩, ⟨HT0, HT1, HT2, HT3⟩, HO⟩ Hk
  have a3 : Above (3 + 8 * s + 2 * (3 : Fin 4).val) ps := ha
  have a2 : Above (3 + 8 * s + 2 * (2 : Fin 4).val) (payHop c 3 s ps) :=
    Above.hop c 3 s hs (by show 3 + 8 * s + 2 * 2 < 3 + 8 * s + 2 * 3; omega) (a3.mono (by show 3 + 8 * s + 2 * 2 ≤ 3 + 8 * s + 2 * 3; omega))
  have a1 : Above (3 + 8 * s + 2 * (1 : Fin 4).val) (payHop c 2 s (payHop c 3 s ps)) :=
    Above.hop c 2 s hs (by show 3 + 8 * s + 2 * 1 < 3 + 8 * s + 2 * 2; omega) (a2.mono (by show 3 + 8 * s + 2 * 1 ≤ 3 + 8 * s + 2 * 2; omega))
  have a0 : Above (3 + 8 * s + 2 * (0 : Fin 4).val) (payHop c 1 s (payHop c 2 s (payHop c 3 s ps))) :=
    Above.hop c 1 s hs (by show 3 + 8 * s + 2 * 0 < 3 + 8 * s + 2 * 1; omega) (a1.mono (by show 3 + 8 * s + 2 * 0 ≤ 3 + 8 * s + 2 * 1; omega))
  iapply (WP_bind c)
  iapply (wp_prodC X Y c 0 (step15 s)) $$ HX
  iintro HX
  iapply (WP_bind c)
  iapply (wp_prodC X Y c 1 (step15 s)) $$ HX
  iintro HX
  iapply (WP_bind c)
  iapply (wp_prodC X Y c 2 (step15 s)) $$ HX
  iintro HX
  iapply (WP_bind c)
  iapply (wp_prodC X Y c 3 (step15 s)) $$ HX
  iintro HX
  iapply (WP_bind c)
  iapply (wp_hopC X Y K c 0 s hs a0) $$ [HS0 HT0 HO]
  · isplitr; · iexact HC
    isplitl [HS0]; · iexact HS0
    isplitl [HT0]; · iexact HT0
    iexact HO
  iintro ⟨HS0, HO⟩
  iapply (WP_bind c)
  iapply (wp_hopC X Y K c 1 s hs a1) $$ [HS1 HT1 HO]
  · isplitr; · iexact HC
    isplitl [HS1]; · iexact HS1
    isplitl [HT1]; · iexact HT1
    iexact HO
  iintro ⟨HS1, HO⟩
  iapply (WP_bind c)
  iapply (wp_hopC X Y K c 2 s hs a2) $$ [HS2 HT2 HO]
  · isplitr; · iexact HC
    isplitl [HS2]; · iexact HS2
    isplitl [HT2]; · iexact HT2
    iexact HO
  iintro ⟨HS2, HO⟩
  iapply (wp_hopC X Y K c 3 s hs a3) $$ [HS3 HT3 HO]
  · isplitr; · iexact HC
    isplitl [HS3]; · iexact HS3
    isplitl [HT3]; · iexact HT3
    iexact HO
  iintro ⟨HS3, HO⟩
  iapply Hk
  isplitl [HX]; · iexact HX
  isplitr [HO]
  · isplitl [HS0]; · iexact HS0
    isplitl [HS1]; · iexact HS1
    isplitl [HS2]; · iexact HS2
    iexact HS3
  iexact HO

/-- What steps `14 - n` to 13 use up. -/
def Tks (c : Dev nD) : ℕ → sProp 𝕄
  | 0 => iprop(emp)
  | n + 1 => iprop(all4 (fun j => Tk c j (13 - n)) ∗ Tks c n)

/-- The exchanges. -/
theorem wp_stepsC : ∀ (n : ℕ) (hn : n ≤ 14) {Q : PUnit → sProp 𝕄},
    iprop(Ctx X Y K ∗ XW X Y c ∗ all4 (fun j => St c j (14 - n)) ∗ Tks c n ∗ owing c (paySteps c n))
      ⊢ iprop(((XW X Y c ∗ all4 (fun j => St c j 14) ∗ owing c []) -∗ Q ⟨⟩) -∗ WP c (stepsC c n) Q)
  | 0, hn, Q => by
    unfold stepsC
    iintro ⟨#HC, HX, HS, -, HO⟩ Hk
    iapply (WP_ret c)
    iapply Hk
    isplitl [HX]; · iexact HX
    isplitl [HS]; · iexact HS
    iexact HO
  | n + 1, hn, Q => by
    have e : 14 - (n + 1) = 13 - n := by omega
    have e' : 14 - n = 13 - n + 1 := by omega
    rw [e]
    have ih := wp_stepsC n (by omega) (Q := Q)
    rw [e'] at ih
    unfold stepsC Tks paySteps
    iintro ⟨#HC, HX, HS, ⟨HT, HTs⟩, HO⟩ Hk
    iapply (WP_bind c)
    iapply (wp_stepC X Y K c (13 - n) (by omega) (Above.steps c n _ (by omega) (by omega))) $$ [HX HS HT HO]
    · isplitr; · iexact HC
      isplitl [HX]; · iexact HX
      isplitl [HS]; · iexact HS
      isplitl [HT]; · iexact HT
      iexact HO
    iintro ⟨HX, HS, HO⟩
    iapply ih $$ [HX HS HTs HO]
    · isplitr; · iexact HC
      isplitl [HX]; · iexact HX
      isplitl [HS]; · iexact HS
      isplitl [HTs]; · iexact HTs
      iexact HO
    iexact Hk

/-- The result's block once the four chains have written it over `f`. -/
def outO (c : Dev nD) (f : (cc0_stg2_0 : Ref sig .tc).ty.Contents (Elt F)) : (cc0_stg2_0 : Ref sig .tc).ty.Contents (Elt F) :=
  putO 3 (outP X Y 3 c) (putO 2 (outP X Y 2 c) (putO 1 (outP X Y 1 c) (putO 0 (outP X Y 0 c) f)))

theorem wp_lastStepC {f} {Q : PUnit → sProp 𝕄} :
    iprop(Ctx X Y K ∗ XW X Y c ∗ all4 (fun j => St c j 14) ∗ outF c f ∗ owing c [])
      ⊢ iprop(((XW X Y c ∗ all4 (fun j => StL c j) ∗ outF c (outO X Y c f) ∗ owing c []) -∗ Q ⟨⟩) -∗ WP c (lastStepC c) Q) := by
  unfold lastStepC all4 outO
  iintro ⟨#HC, HX, ⟨HS0, HS1, HS2, HS3⟩, Hout, HO⟩ Hk
  iapply (WP_bind c)
  iapply (wp_prodC X Y c 0 14) $$ HX
  iintro HX
  iapply (WP_bind c)
  iapply (wp_prodC X Y c 1 14) $$ HX
  iintro HX
  iapply (WP_bind c)
  iapply (wp_prodC X Y c 2 14) $$ HX
  iintro HX
  iapply (WP_bind c)
  iapply (wp_prodC X Y c 3 14) $$ HX
  iintro HX
  iapply (WP_bind c)
  iapply (wp_lastC X Y K c 0) $$ [HS0 Hout HO]
  · isplitr; · iexact HC
    isplitl [HS0]; · iexact HS0
    isplitl [Hout]; · iexact Hout
    iexact HO
  iintro ⟨HS0, Hout, HO⟩
  iapply (WP_bind c)
  iapply (wp_lastC X Y K c 1) $$ [HS1 Hout HO]
  · isplitr; · iexact HC
    isplitl [HS1]; · iexact HS1
    isplitl [Hout]; · iexact Hout
    iexact HO
  iintro ⟨HS1, Hout, HO⟩
  iapply (WP_bind c)
  iapply (wp_lastC X Y K c 2) $$ [HS2 Hout HO]
  · isplitr; · iexact HC
    isplitl [HS2]; · iexact HS2
    isplitl [Hout]; · iexact Hout
    iexact HO
  iintro ⟨HS2, Hout, HO⟩
  iapply (wp_lastC X Y K c 3) $$ [HS3 Hout HO]
  · isplitr; · iexact HC
    isplitl [HS3]; · iexact HS3
    isplitl [Hout]; · iexact Hout
    iexact HO
  iintro ⟨HS3, Hout, HO⟩
  iapply Hk
  isplitl [HX]; · iexact HX
  isplitr [Hout HO]
  · isplitl [HS0]; · iexact HS0
    isplitl [HS1]; · iexact HS1
    isplitl [HS2]; · iexact HS2
    iexact HS3
  isplitl [Hout]; · iexact Hout
  iexact HO

/-! ## The body -/

/-- A chain at the start: its cells at their first rounds, slot 0, the rights of hop 0. -/
def Ch (c : Dev nD) (j : Fin 4) : sProp 𝕄 := iprop(St0 c j ∗ slotA (F := F) c j 0 ∗ hopTok c j 0 ∗ hopCr c j 0)
/-- The barrier at the start: one's own cell, the rights to signal the two neighbours. -/
def Ba (c : Dev nD) : sProp 𝕄 :=
  iprop(atR (barCell c) 0 ∗ cred (tallyAt (barCell c) 0 2) ∗ dutyTok ER (barCell (lft c)) 0 true ∗ dutyTok ER (barCell (rgt c)) 0 false)

theorem wp_bodyC {f} {Q : PUnit → sProp 𝕄} :
    iprop(Ctx X Y K ∗ XW X Y c ∗ Ba c ∗ all4 (fun j => Ch c j) ∗ all4 (fun j => slotA (F := F) c j 1) ∗ Tks c 14 ∗ outF c f ∗ owing c (payAll c))
      ⊢ iprop(((XW X Y c ∗ atR (barCell c) 1 ∗ all4 (fun j => StE c j) ∗ outF c (outO X Y c f) ∗ owing c []) -∗ Q ⟨⟩) -∗ WP c (bodyC c) Q) := by
  unfold bodyC Ba Ch payAll
  rw [show all4 (F := F) (fun j => slotA c j 1) = iprop(slotA c 0 1 ∗ slotA c 1 1 ∗ slotA c 2 1 ∗ slotA c 3 1) from rfl,
    show all4 (F := F) (fun j => iprop(St0 c j ∗ slotA c j 0 ∗ hopTok c j 0 ∗ hopCr c j 0)) = iprop((St0 c 0 ∗ slotA c 0 0 ∗ hopTok c 0 0 ∗ hopCr c 0 0)
      ∗ (St0 c 1 ∗ slotA c 1 0 ∗ hopTok c 1 0 ∗ hopCr c 1 0) ∗ (St0 c 2 ∗ slotA c 2 0 ∗ hopTok c 2 0 ∗ hopCr c 2 0)
      ∗ (St0 c 3 ∗ slotA c 3 0 ∗ hopTok c 3 0 ∗ hopCr c 3 0)) from rfl]
  iintro ⟨#HC, HX, ⟨Hb, Hcb, HtL, HtR⟩, ⟨⟨HS0, Ha0, Hh0, Hl0⟩, ⟨HS1, Ha1, Hh1, Hl1⟩, ⟨HS2, Ha2, Hh2, Hl2⟩, ⟨HS3, Ha3, Hh3, Hl3⟩⟩,
    ⟨Hd0, Hd1, Hd2, Hd3⟩, HT, Hout, HO⟩ Hk
  have e0 : tgt 0 (lft c) = c := rgt_lft c
  have e1 : tgt 1 (rgt c) = c := lft_rgt c
  have e2 : tgt 2 (lft c) = c := rgt_lft c
  have e3 : tgt 3 (rgt c) = c := lft_rgt c
  iapply (wp_sigB X Y K c (lft c) true) $$ [HO HtL Hd0 Hd2]
  · isplitr; · iexact HC
    isplitl [HO]; · iexact HO
    isplitl [HtL]; · iexact HtL
    rw [show barPay (F := F) (lft c) true = iprop(openPay (lft c) 0 ∗ openPay (lft c) 2) from rfl]
    unfold openPay
    rw [e0, e2]
    isplitl [Hd0]
    · isplitl [Hd0]; · iexact Hd0
      iapply (reach_rcv X Y K c 0 1); iexact HC
    isplitl [Hd2]; · iexact Hd2
    iapply (reach_rcv X Y K c 2 1); iexact HC
  iintro HO
  iapply (wp_sigB X Y K c (rgt c) false) $$ [HO HtR Hd1 Hd3]
  · isplitr; · iexact HC
    isplitl [HO]; · iexact HO
    isplitl [HtR]; · iexact HtR
    rw [show barPay (F := F) (rgt c) false = iprop(openPay (rgt c) 1 ∗ openPay (rgt c) 3) from rfl]
    unfold openPay
    rw [e1, e3]
    isplitl [Hd1]
    · isplitl [Hd1]; · iexact Hd1
      iapply (reach_rcv X Y K c 1 1); iexact HC
    isplitl [Hd3]; · iexact Hd3
    iapply (reach_rcv X Y K c 3 1); iexact HC
  iintro HO
  iapply (wp_waitB X Y K c (Above.start c)) $$ [Hcb HO Hb]
  · isplitr; · iexact HC
    isplitl [Hcb]; · iexact Hcb
    isplitl [HO]; · iexact HO
    iexact Hb
  rw [show barPay (F := F) c false = iprop(openPay c 1 ∗ openPay c 3) from rfl, show barPay (F := F) c true = iprop(openPay c 0 ∗ openPay c 2) from rfl]
  iintro ⟨HO, Hb, ⟨Ho1, Ho3⟩, ⟨Ho0, Ho2⟩⟩
  unfold payStart
  iapply (WP_bind c)
  iapply (wp_startC X Y K c 0) $$ [HX HS0 Ha0 Ho0 HO Hh0 Hl0]
  · isplitr; · iexact HC
    isplitl [HX]; · iexact HX
    isplitl [HS0]; · iexact HS0
    isplitl [Ha0]; · iexact Ha0
    isplitl [Ho0]; · iexact Ho0
    isplitl [HO]; · iexact HO
    isplitl [Hh0]; · iexact Hh0
    iexact Hl0
  iintro ⟨HX, HS0, HO⟩
  iapply (WP_bind c)
  iapply (wp_startC X Y K c 1) $$ [HX HS1 Ha1 Ho1 HO Hh1 Hl1]
  · isplitr; · iexact HC
    isplitl [HX]; · iexact HX
    isplitl [HS1]; · iexact HS1
    isplitl [Ha1]; · iexact Ha1
    isplitl [Ho1]; · iexact Ho1
    isplitl [HO]; · iexact HO
    isplitl [Hh1]; · iexact Hh1
    iexact Hl1
  iintro ⟨HX, HS1, HO⟩
  iapply (WP_bind c)
  iapply (wp_startC X Y K c 2) $$ [HX HS2 Ha2 Ho2 HO Hh2 Hl2]
  · isplitr; · iexact HC
    isplitl [HX]; · iexact HX
    isplitl [HS2]; · iexact HS2
    isplitl [Ha2]; · iexact Ha2
    isplitl [Ho2]; · iexact Ho2
    isplitl [HO]; · iexact HO
    isplitl [Hh2]; · iexact Hh2
    iexact Hl2
  iintro ⟨HX, HS2, HO⟩
  iapply (WP_bind c)
  iapply (wp_startC X Y K c 3) $$ [HX HS3 Ha3 Ho3 HO Hh3 Hl3]
  · isplitr; · iexact HC
    isplitl [HX]; · iexact HX
    isplitl [HS3]; · iexact HS3
    isplitl [Ha3]; · iexact Ha3
    isplitl [Ho3]; · iexact Ho3
    isplitl [HO]; · iexact HO
    isplitl [Hh3]; · iexact Hh3
    iexact Hl3
  iintro ⟨HX, HS3, HO⟩
  iapply (WP_bind c)
  iapply (wp_stepsC X Y K c 14 le_rfl) $$ [HX HS0 HS1 HS2 HS3 HT HO]
  · isplitr; · iexact HC
    isplitl [HX]; · iexact HX
    isplitl [HS0 HS1 HS2 HS3]
    · unfold all4
      isplitl [HS0]; · iexact HS0
      isplitl [HS1]; · iexact HS1
      isplitl [HS2]; · iexact HS2
      iexact HS3
    isplitl [HT]; · iexact HT
    iexact HO
  iintro ⟨HX, HS, HO⟩
  iapply (WP_bind c)
  iapply (wp_lastStepC X Y K c) $$ [HX HS Hout HO]
  · isplitr; · iexact HC
    isplitl [HX]; · iexact HX
    isplitl [HS]; · iexact HS
    isplitl [Hout]; · iexact Hout
    iexact HO
  unfold all4
  iintro ⟨HX, ⟨HS0, HS1, HS2, HS3⟩, Hout, HO⟩
  iapply (wp_endC X Y K c 0) $$ [HS0 HO]
  · isplitr; · iexact HC
    isplitl [HS0]; · iexact HS0
    iexact HO
  iintro ⟨HS0, HO⟩
  iapply (wp_endC X Y K c 1) $$ [HS1 HO]
  · isplitr; · iexact HC
    isplitl [HS1]; · iexact HS1
    iexact HO
  iintro ⟨HS1, HO⟩
  iapply (wp_endC X Y K c 2) $$ [HS2 HO]
  · isplitr; · iexact HC
    isplitl [HS2]; · iexact HS2
    iexact HO
  iintro ⟨HS2, HO⟩
  iapply (wp_endC X Y K c 3) $$ [HS3 HO]
  · isplitr; · iexact HC
    isplitl [HS3]; · iexact HS3
    iexact HO
  iintro ⟨HS3, HO⟩
  iapply (WP_ret c)
  iapply Hk
  isplitl [HX]; · iexact HX
  isplitl [Hb]; · iexact Hb
  isplitr [Hout HO]
  · isplitl [HS0]; · iexact HS0
    isplitl [HS1]; · iexact HS1
    isplitl [HS2]; · iexact HS2
    iexact HS3
  isplitl [Hout]; · iexact Hout
  iexact HO

end Steps

end Cert.KernelIdeal.Chain

end
-- ==== Proof.Seed.lean ====
/-
What the launch gives each device, sorted by who uses it.

* Every payment a device owes becomes one credit of the cell it is owed to.
* Every cell's duty tokens go to the device that pays them.
* A chain's buffer is its two slots.
* A device's cells are the four chains' and the barrier's.
-/
module

public import proofs.«01_k».proof.Proof.Body
public import Idealize.ShloMosaic.Lib.Ring
public import Idealize.ShloMosaic.Lib.ViewIndex

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCred_add launchCred_zero)

variable {F : FTy → Type} [FloatOps F]

local notation "𝕄" => MT nD τ sig ℕ (Elt F) ℕ UU ℕ

/-! ## Credits -/

omit [FloatOps F] in
/-- One payment of every device, each to another cell of one kind: a credit of that cell on each device. -/
theorem launch_one (e : Dev nD ≃ Dev nD) (sm : SemLoc sig) (r n : ℕ) (c : Dev nD) :
    (launchCred (fun d => tallyAt ((e d : Thread nD τ), sm) r n) c : sProp 𝕄) ⊢ cred (tallyAt ((c : Thread nD τ), sm) r n) := by
  refine (Pipeline.launchCred_elim _ c sm).trans (Entails.of_eq (congrArg cred ?_))
  unfold tallyAt
  refine congrArg _ (Finsupp.ext fun u => ?_)
  rw [Pipeline.launchCredit_owing]
  have h1 : ∀ d : Dev nD, (tallyAt ((e d : Thread nD τ), sm) r n : CellTallies nD τ sig ℕ) ((c : Thread nD τ), sm) u
      = if d = e.symm c then (if u = r then n else 0) else 0 := fun d => by
    rw [tallyAt_apply]
    by_cases h : d = e.symm c
    · subst h; rw [Equiv.apply_symm_apply, if_pos rfl]; simp
    · rw [if_neg h, if_neg]
      rintro ⟨h', -⟩
      refine h ?_
      rw [Equiv.eq_symm_apply]
      exact (Fin.ext (congrArg (fun g : GSem nD τ sig => g.1.1.val) h')).symm
  refine (Finset.sum_congr rfl fun d _ => h1 d).trans ?_
  rw [Finset.sum_ite_eq' Finset.univ (e.symm c) fun _ => _, if_pos (Finset.mem_univ _), Finsupp.single_apply]
  by_cases h : u = r
  · subst h; rw [if_pos rfl]
  · rw [if_neg h, if_neg (Ne.symm h)]

omit [FloatOps F] in
theorem launch_rcv (c : Dev nD) (j : Fin 4) (h : ℕ) (ps : Dev nD → List Pay) :
    (launchCred (fun d => owedL (payRcv d j h :: ps d)) c : sProp 𝕄) ⊢ iprop(hopCr c j h ∗ launchCred (fun d => owedL (ps d)) c) := by
  rw [show (fun d => owedL (payRcv d j h :: ps d))
    = fun d => owedL (ps d) + tallyAt ((ring j d : Thread nD τ), .dma (rcvS j (nb (par h)))) (h / 2) N from rfl, launchCred_add]
  unfold hopCr
  iintro ⟨H, H1⟩
  isplitl [H1]
  · iapply (launch_one (ring j) (.dma (rcvS j (nb (par h)))) (h / 2) N c)
    iexact H1
  iexact H

omit [FloatOps F] in
theorem launch_crd (c : Dev nD) (j : Fin 4) (s : ℕ) (ps : Dev nD → List Pay) :
    (launchCred (fun d => owedL (payCrd d j s :: ps d)) c : sProp 𝕄) ⊢ iprop(cred (tallyAt (crdCell c j) s 1) ∗ launchCred (fun d => owedL (ps d)) c) := by
  rw [show (fun d => owedL (payCrd d j s :: ps d)) = fun d => owedL (ps d) + tallyAt (((ring j).symm d : Thread nD τ), .reg (crdS j)) s 1 from rfl, launchCred_add]
  iintro ⟨H, H1⟩
  isplitl [H1]
  · iapply (launch_one (ring j).symm (.reg (crdS j)) s 1 c)
    iexact H1
  iexact H

omit [FloatOps F] in
theorem launch_bar (e : Dev nD ≃ Dev nD) (f : Dev nD → Dev nD) (hf : ∀ d, f d = e d) (c : Dev nD) (ps : Dev nD → List Pay) :
    (launchCred (fun d => owedL (payBar (f d) :: ps d)) c : sProp 𝕄) ⊢ iprop(cred (tallyAt (barCell c) 0 1) ∗ launchCred (fun d => owedL (ps d)) c) := by
  obtain rfl : f = e := funext hf
  rw [show (fun d => owedL (payBar (e d) :: ps d)) = fun d => owedL (ps d) + tallyAt ((e d : Thread nD τ), .reg barS) 0 1 from rfl, launchCred_add]
  iintro ⟨H, H1⟩
  isplitl [H1]
  · iapply (launch_one e (.reg barS) 0 1 c)
    iexact H1
  iexact H

/-- The credits of step `s` on a chain; its tokens. -/
def TkC (c : Dev nD) (j : Fin 4) (s : ℕ) : sProp 𝕄 := iprop(cred (tallyAt (crdCell c j) s 1) ∗ hopCr c j (s + 1))
def TkT (c : Dev nD) (j : Fin 4) (s : ℕ) : sProp 𝕄 := iprop(dutyTok ER (crdCell (ups j c) j) s false ∗ hopTok c j (s + 1))

/-- Steps `14 - n` to 13, one by one. -/
def down (P : ℕ → sProp 𝕄) : ℕ → sProp 𝕄
  | 0 => iprop(emp)
  | n + 1 => iprop(P (13 - n) ∗ down P n)

omit [FloatOps F] in
theorem launch_hop (c : Dev nD) (j : Fin 4) (s : ℕ) (ps : Dev nD → List Pay) :
    (launchCred (fun d => owedL (payHop d j s (ps d))) c : sProp 𝕄) ⊢ iprop(TkC c j s ∗ launchCred (fun d => owedL (ps d)) c) := by
  unfold payHop TkC
  iintro H
  ihave H := (launch_crd c j s _) $$ H
  icases H with ⟨H1, H⟩
  ihave H := (launch_rcv c j (s + 1) _) $$ H
  icases H with ⟨H2, H⟩
  isplitl [H1 H2]
  · isplitl [H1] <;> iassumption
  iexact H

omit [FloatOps F] in
theorem launch_steps (c : Dev nD) : ∀ n : ℕ, (launchCred (fun d => owedL (paySteps d n)) c : sProp 𝕄) ⊢ down (fun s => all4 fun j => TkC c j s) n
  | 0 => by
    unfold down paySteps
    exact Entails.of_eq (launchCred_zero c)
  | n + 1 => by
    unfold down paySteps payStep
    have ih := launch_steps c n
    iintro H
    ihave H := (launch_hop c 0 _ _) $$ H
    icases H with ⟨H0, H⟩
    ihave H := (launch_hop c 1 _ _) $$ H
    icases H with ⟨H1, H⟩
    ihave H := (launch_hop c 2 _ _) $$ H
    icases H with ⟨H2, H⟩
    ihave H := (launch_hop c 3 _ _) $$ H
    icases H with ⟨H3, H⟩
    isplitr [H]
    · unfold all4
      isplitl [H0]; · iexact H0
      isplitl [H1]; · iexact H1
      isplitl [H2]; · iexact H2
      iexact H3
    · iapply ih
      iexact H

omit [FloatOps F] in
/-- All of a device's credits. -/
theorem launch_all (c : Dev nD) : (launchCred (fun d => owedL (payAll d)) c : sProp 𝕄)
    ⊢ iprop(cred (tallyAt (barCell c) 0 2) ∗ all4 (fun j => hopCr c j 0) ∗ down (fun s => all4 fun j => TkC c j s) 14) := by
  unfold payAll payStart
  iintro H
  ihave H := (launch_bar (ring 1) lft (fun _ => rfl) c _) $$ H
  icases H with ⟨Hb, H⟩
  ihave H := (launch_bar (ring 0) rgt (fun _ => rfl) c _) $$ H
  icases H with ⟨Hb', H⟩
  ihave H := (launch_rcv c 0 0 _) $$ H
  icases H with ⟨H0, H⟩
  ihave H := (launch_rcv c 1 0 _) $$ H
  icases H with ⟨H1, H⟩
  ihave H := (launch_rcv c 2 0 _) $$ H
  icases H with ⟨H2, H⟩
  ihave H := (launch_rcv c 3 0 _) $$ H
  icases H with ⟨H3, H⟩
  isplitl [Hb Hb']
  · rw [show (2 : ℕ) = 1 + 1 from rfl, ← tallyAt_add]
    iapply (cred_add _ _).2
    isplitl [Hb] <;> iassumption
  isplitl [H0 H1 H2 H3]
  · unfold all4
    isplitl [H0]; · iexact H0
    isplitl [H1]; · iexact H1
    isplitl [H2]; · iexact H2
    iexact H3
  iapply (launch_steps c 14)
  iexact H

omit [FloatOps F] in
theorem down_merge (c : Dev nD) : ∀ n : ℕ, iprop(down (fun s => all4 fun j => TkC c j s) n ∗ down (fun s => all4 fun j => TkT c j s) n) ⊢ Tks (F := F) c n
  | 0 => by
    unfold down Tks
    iintro ⟨-, H⟩
    iexact H
  | n + 1 => by
    have ih := down_merge c n
    unfold down Tks all4 Tk TkC TkT
    unfold all4 TkC TkT at ih
    iintro ⟨⟨⟨A0, A1, A2, A3⟩, A⟩, ⟨B0, B1, B2, B3⟩, B⟩
    isplitr [A B]
    · isplitl [A0 B0]
      · isplitl [A0] <;> iassumption
      isplitl [A1 B1]
      · isplitl [A1] <;> iassumption
      isplitl [A2 B2]
      · isplitl [A2] <;> iassumption
      isplitl [A3] <;> iassumption
    · iapply ih
      isplitl [A] <;> iassumption

/-! ## Tokens -/

/-- The tokens of one device's cells: two of the barrier, one per hop sent and received, one per credit. -/
abbrev TK : Type := Bool ⊕ ((Fin 4 × Fin 15) ⊕ ((Fin 4 × Fin 15) ⊕ (Fin 4 × Fin 14)))
def tokSem : TK → SemLoc sig × ℕ × Bool
  | .inl d => (.reg barS, 0, d)
  | .inr (.inl (j, h)) => (.dma (sndS j (par h)), h.val / 2, false)
  | .inr (.inr (.inl (j, h))) => (.dma (rcvS j (nb (par h))), h.val / 2, false)
  | .inr (.inr (.inr (j, s))) => (.reg (crdS j), s.val, false)
def tokKind (p : SemLoc sig × ℕ × Bool) : TK := match kind p.1 with
  | .bar => .inl p.2.2
  | .snd j b => .inr (.inl (j, step15 (hopS b p.2.1)))
  | .rcv j b => .inr (.inr (.inl (j, step15 (hopR b p.2.1))))
  | .crd j => .inr (.inr (.inr (j, ⟨p.2.1 % 14, Nat.mod_lt _ (by decide)⟩)))
  | .none => .inl true

theorem step15_val (h : Fin 15) : step15 h.val = h := Fin.ext (Nat.mod_eq_of_lt h.isLt)

theorem tokKind_tokSem : ∀ t : TK, tokKind (tokSem t) = t
  | .inl d => by unfold tokKind tokSem; simp only [kind_bar]
  | .inr (.inl (j, h)) => by unfold tokKind tokSem; simp only [kind_snd, hopS_at, step15_val]
  | .inr (.inr (.inl (j, h))) => by unfold tokKind tokSem; simp only [kind_rcv, hopR_at, step15_val]
  | .inr (.inr (.inr (j, s))) => by
    unfold tokKind tokSem
    simp only [kind_crd]
    exact congrArg (fun s => (.inr (.inr (.inr (j, s))) : TK)) (Fin.ext (Nat.mod_eq_of_lt s.isLt))

def tokOf (ct : Dev nD × TK) : GSem nD τ sig × ℕ × Bool := (((ct.1 : Thread nD τ), (tokSem ct.2).1), (tokSem ct.2).2)
theorem tokOf_injective : Function.Injective tokOf := by
  rintro ⟨c, t⟩ ⟨c', t'⟩ h
  have h1 : c = c' := congrArg (fun g : GSem nD τ sig × ℕ × Bool => g.1.1.1) h
  have h2 : tokSem t = tokSem t' := Prod.ext (congrArg (fun g : GSem nD τ sig × ℕ × Bool => g.1.2) h) (congrArg (fun g : GSem nD τ sig × ℕ × Bool => g.2) h)
  subst h1
  have h3 := congrArg tokKind h2
  rw [tokKind_tokSem, tokKind_tokSem] at h3
  rw [h3]

/-- The tokens of a device's own cells. -/
def toks (c : Dev nD) : sProp 𝕄 :=
  iprop((dutyTok ER (barCell c) 0 false ∗ dutyTok ER (barCell c) 0 true)
    ∗ (bigSep Finset.univ fun p : Fin 4 × Fin 15 => dutyTok ER (sndCell c p.1 (par p.2)) (p.2.val / 2) false)
    ∗ (bigSep Finset.univ fun p : Fin 4 × Fin 15 => dutyTok ER (rcvCell c p.1 (nb (par p.2))) (p.2.val / 2) false)
    ∗ bigSep Finset.univ fun p : Fin 4 × Fin 14 => dutyTok ER (crdCell c p.1) p.2.val false)

omit [FloatOps F] in
theorem toks_eq (c : Dev nD) : (bigSep Finset.univ fun t : TK => (dutyTok ER (tokOf (c, t)).1 (tokOf (c, t)).2.1 (tokOf (c, t)).2.2 : sProp 𝕄)) = toks c := by
  rw [bigSep_univ_sum, bigSep_univ_sum, bigSep_univ_sum, bigSep_univ_eq_bigSepL [false, true] (by decide) (by decide)]
  rfl

/-- The tokens a device pays with. -/
def payToks (c : Dev nD) : sProp 𝕄 :=
  iprop((dutyTok ER (barCell (rgt c)) 0 false ∗ dutyTok ER (barCell (lft c)) 0 true)
    ∗ (bigSep Finset.univ fun p : Fin 4 × Fin 15 => hopTok c p.1 p.2.val)
    ∗ bigSep Finset.univ fun p : Fin 4 × Fin 14 => dutyTok ER (crdCell (ups p.1 c) p.1) p.2.val false)

omit [FloatOps F] in
/-- A family over devices and an index, moved along a permutation of the devices per index. -/
theorem bigSep_move {I : Type} [Fintype I] (e : I → (Dev nD ≃ Dev nD)) (P : Dev nD → I → sProp 𝕄) :
    (bigSep Finset.univ fun c => bigSep Finset.univ fun i => P c i) = bigSep Finset.univ fun c => bigSep Finset.univ fun i => P (e i c) i := by
  rw [bigSep_univ_comm, bigSep_univ_comm (fun c i => P (e i c) i)]
  exact bigSep_congr fun i _ => bigSep_univ_equiv (e i) (fun c => P c i)

omit [FloatOps F] in
theorem toks_around : (bigSep Finset.univ fun c : Dev nD => (toks c : sProp 𝕄)) ⊢ bigSep Finset.univ fun c : Dev nD => payToks c := by
  unfold toks payToks hopTok
  rw [bigSep_sep', bigSep_sep', bigSep_sep', bigSep_sep', bigSep_sep', bigSep_sep', bigSep_sep',
    bigSep_univ_equiv (ring 0) (fun c : Dev nD => (dutyTok ER (barCell c) 0 false : sProp 𝕄)),
    bigSep_univ_equiv (ring 1) (fun c : Dev nD => (dutyTok ER (barCell c) 0 true : sProp 𝕄)),
    bigSep_move (fun p : Fin 4 × Fin 15 => ring p.1) (fun c p => (dutyTok ER (rcvCell c p.1 (nb (par p.2))) (p.2.val / 2) false : sProp 𝕄)),
    bigSep_move (fun p : Fin 4 × Fin 14 => (ring p.1).symm) (fun c p => (dutyTok ER (crdCell c p.1) p.2.val false : sProp 𝕄)),
    bigSep_congr (s := Finset.univ) (fun (c : Dev nD) _ => bigSep_sep' Finset.univ (fun p : Fin 4 × Fin 15 => (dutyTok ER (sndCell c p.1 (par p.2)) (p.2.val / 2) false : sProp 𝕄))
      (fun p => dutyTok ER (rcvCell (tgt p.1 c) p.1 (nb (par p.2))) (p.2.val / 2) false)), bigSep_sep']
  iintro ⟨⟨HF, HT⟩, HS, HR, HC⟩
  isplitl [HF HT]
  · isplitl [HF]; · iexact HF
    iexact HT
  isplitl [HS HR]
  · isplitl [HS]; · iexact HS
    iexact HR
  iexact HC

omit [FloatOps F] in
theorem down_eq (P : ℕ → sProp 𝕄) : ∀ n : ℕ, n ≤ 14 → bigSep (Finset.Ico (14 - n) 14) P = down P n
  | 0, _ => by unfold down; rw [Nat.sub_zero, Finset.Ico_self, bigSep_empty]; rfl
  | n + 1, hn => by
    unfold down
    rw [← down_eq P n (by omega), show 14 - n = (14 - (n + 1)) + 1 by omega, show 14 - (n + 1) = 13 - n by omega,
      show Finset.Ico (13 - n) 14 = insert (13 - n) (Finset.Ico (13 - n + 1) 14) from by ext i; simp only [Finset.mem_Ico, Finset.mem_insert]; omega,
      bigSep_insert (by simp)]
    rfl

omit [FloatOps F] in
theorem down_fin (P : ℕ → sProp 𝕄) : (bigSep Finset.univ fun s : Fin 14 => P s.val) = down P 14 := by
  rw [← down_eq P 14 le_rfl, show Finset.Ico (14 - 14) 14 = (Finset.univ : Finset (Fin 14)).map Fin.valEmbedding from by decide, bigSep_map]
  rfl

omit [FloatOps F] in
theorem all4_eq (P : Fin 4 → sProp 𝕄) : bigSep Finset.univ P = all4 P := by
  rw [bigSep_univ_eq_bigSepL [0, 1, 2, 3] (by decide) (by decide)]; rfl

omit [FloatOps F] in
theorem fin15_split (P : Fin 15 → sProp 𝕄) : bigSep Finset.univ P = iprop(P 0 ∗ bigSep Finset.univ fun s : Fin 14 => P s.succ) := by
  rw [Fin.univ_succ, Finset.cons_eq_insert, bigSep_insert (by simp), bigSep_map]
  rfl

omit [FloatOps F] in
/-- Hop 0's tokens apart, the others with the credit of the step before. -/
theorem payToks_split (c : Dev nD) : payToks (F := F) c ⊢ iprop((dutyTok ER (barCell (rgt c)) 0 false ∗ dutyTok ER (barCell (lft c)) 0 true)
    ∗ all4 (fun j => hopTok c j 0) ∗ down (fun s => all4 fun j => TkT c j s) 14) := by
  unfold payToks TkT
  rw [← down_fin, bigSep_univ_prod, bigSep_univ_prod, bigSep_univ_comm, bigSep_univ_comm (fun (a : Fin 4) (b : Fin 14) => dutyTok ER (crdCell (ups a c) a) b.val false)]
  rw [fin15_split]
  simp only [← all4_eq]
  rw [bigSep_congr (s := Finset.univ) (fun (s : Fin 14) _ => bigSep_sep' Finset.univ (fun j : Fin 4 => (dutyTok ER (crdCell (ups j c) j) s.val false : sProp 𝕄)) (fun j => hopTok c j (s.val + 1))), bigSep_sep']
  iintro ⟨HB, ⟨H0, HH⟩, HC⟩
  isplitl [HB]; · iexact HB
  isplitl [H0]; · iexact H0
  isplitl [HC]; · iexact HC
  iexact HH

/-! ## Cells -/

theorem csem_injective : Function.Injective csem := by
  have h : ∀ a b : Fin 21, csem a = csem b → a = b := by decide
  exact fun a b => h a b
theorem kcell_injective : Function.Injective (kcell : Dev nD × Fin 21 → GSem nD τ sig) := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-- Something of a chain's five cells. -/
def cell5 (P : GSem nD τ sig → sProp 𝕄) (c : Dev nD) (j : Fin 4) : sProp 𝕄 :=
  iprop(P (rcvCell c j 1) ∗ P (rcvCell c j 0) ∗ P (sndCell c j 0) ∗ P (sndCell c j 1) ∗ P (crdCell c j))

omit [FloatOps F] in
theorem cells_eq (P : GSem nD τ sig → sProp 𝕄) (c : Dev nD) :
    (bigSep Finset.univ fun k : Fin 21 => P (kcell (c, k))) = iprop(all4 (cell5 P c) ∗ P (barCell c)) := by
  have h : (bigSep Finset.univ fun k : Fin 21 => P (kcell (c, k))) = iprop(P (rcvCell c 0 1) ∗ P (rcvCell c 0 0) ∗ P (sndCell c 0 0) ∗ P (sndCell c 0 1) ∗ P (crdCell c 0)
      ∗ P (rcvCell c 1 1) ∗ P (rcvCell c 1 0) ∗ P (sndCell c 1 0) ∗ P (sndCell c 1 1) ∗ P (crdCell c 1) ∗ P (rcvCell c 2 1) ∗ P (rcvCell c 2 0) ∗ P (sndCell c 2 0) ∗ P (sndCell c 2 1) ∗ P (crdCell c 2)
      ∗ P (rcvCell c 3 1) ∗ P (rcvCell c 3 0) ∗ P (sndCell c 3 0) ∗ P (sndCell c 3 1) ∗ P (crdCell c 3) ∗ P (barCell c)) := by
    rw [bigSep_univ_eq_bigSepL [kR 0 1, kR 0 0, kS 0 0, kS 0 1, kC 0, kR 1 1, kR 1 0, kS 1 0, kS 1 1, kC 1, kR 2 1, kR 2 0, kS 2 0, kS 2 1, kC 2,
      kR 3 1, kR 3 0, kS 3 0, kS 3 1, kC 3, kB] (by decide) (by decide)]
    simp only [bigSepL_cons_cons, bigSepL_singleton, kcell, csem_R, csem_S, csem_C, csem_B]
    rfl
  rw [h]
  unfold all4 cell5
  refine Entails.antisymm (show _ ⊢ (_ : sProp 𝕄) from ?_) (show _ ⊢ (_ : sProp 𝕄) from ?_)
  · iintro ⟨A0, A1, A2, A3, A4, B0, B1, B2, B3, B4, C0, C1, C2, C3, C4, D0, D1, D2, D3, D4, E⟩
    isplitr [E]
    · isplitl [A0 A1 A2 A3 A4]
      · isplitl [A0]; · iexact A0
        isplitl [A1]; · iexact A1
        isplitl [A2]; · iexact A2
        isplitl [A3] <;> iassumption
      isplitl [B0 B1 B2 B3 B4]
      · isplitl [B0]; · iexact B0
        isplitl [B1]; · iexact B1
        isplitl [B2]; · iexact B2
        isplitl [B3] <;> iassumption
      isplitl [C0 C1 C2 C3 C4]
      · isplitl [C0]; · iexact C0
        isplitl [C1]; · iexact C1
        isplitl [C2]; · iexact C2
        isplitl [C3] <;> iassumption
      isplitl [D0]; · iexact D0
      isplitl [D1]; · iexact D1
      isplitl [D2]; · iexact D2
      isplitl [D3] <;> iassumption
    iexact E
  · iintro ⟨⟨⟨A0, A1, A2, A3, A4⟩, ⟨B0, B1, B2, B3, B4⟩, ⟨C0, C1, C2, C3, C4⟩, ⟨D0, D1, D2, D3, D4⟩⟩, E⟩
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [C0]; · iexact C0
    isplitl [C1]; · iexact C1
    isplitl [C2]; · iexact C2
    isplitl [C3]; · iexact C3
    isplitl [C4]; · iexact C4
    isplitl [D0]; · iexact D0
    isplitl [D1]; · iexact D1
    isplitl [D2]; · iexact D2
    isplitl [D3]; · iexact D3
    isplitl [D4]; · iexact D4
    iexact E

/-- A device's cells that the scope holds: all but the barrier's. -/
def osem (k : Fin 20) : SemLoc sig := csem k.castSucc

omit [FloatOps F] in
theorem cells_last (P : GSem nD τ sig → sProp 𝕄) (c : Dev nD) :
    (bigSep Finset.univ fun k : Fin 21 => P (kcell (c, k)))
      = iprop((bigSep Finset.univ fun k : Fin 20 => P ((c : Thread nD τ), osem k)) ∗ P (barCell c)) := by
  rw [bigSep_univ_equiv (finSumFinEquiv (m := 20) (n := 1)) (fun k : Fin 21 => P (kcell (c, k))), bigSep_univ_sum,
    bigSep_univ_eq_bigSepL (I := Fin 1) [0] (by decide) (by decide)]
  rfl

/-! ## Slots -/

theorem slotV_disjoint (j : Fin 4) : Disjoint (slotV j 0).set (slotV j 1).set :=
  View.disjoint_slice (Ring.lead_disjoint (s := S2x512x1024) (NB := 2) 0 1 (fun b => ![b.val, 0, 0]) S1x512x1024.size slot_inb
    (fun b => (Nat.one_mul _).symm) rfl 0 1 (by decide))
theorem slotV_cover (j : Fin 4) : (slotV j 0).set ∪ (slotV j 1).set = Finset.univ := by
  have h := Ring.lead_cover (s := S2x512x1024) (NB := 2) 0 1 (fun b => ![b.val, 0, 0]) S1x512x1024.size slot_inb
    (fun b => (Nat.one_mul _).symm) (by decide) rfl (by decide) rfl
  refine Finset.eq_univ_iff_forall.mpr fun i => ?_
  obtain ⟨x, -, rfl⟩ : ∃ x ∈ Finset.univ, (bufM j).view.emb x = i := by
    have h : i ∈ (bufM j).view.set := by rw [(bufM_whole j).set_eq_univ]; exact Finset.mem_univ i
    exact Finset.mem_map.mp h
  have hx : x ∈ Finset.univ.biUnion (fun b : Fin 2 => (slotR b).set) := by rw [h]; exact Finset.mem_univ x
  obtain ⟨b, -, hb⟩ := Finset.mem_biUnion.mp hx
  have hb' : (bufM j).view.emb x ∈ (slotV j b).set := by
    show _ ∈ ((bufM j).view.slice (slotR b)).set
    rw [View.set_slice]; exact Finset.mem_map_of_mem _ hb
  have hd : ∀ b : Fin 2, b = 0 ∨ b = 1 := by decide
  rcases hd b with rfl | rfl
  · exact Finset.mem_union_left _ hb'
  · exact Finset.mem_union_right _ hb'

/-- A chain's whole buffer. -/
def bufA (c : Dev nD) (j : Fin 4) : sProp 𝕄 := iprop(∃ f : Buf (Elt F) ((slotV j 0).loc (c : Thread nD τ)), (slotV j 0).loc (c : Thread nD τ) ↦{fullShare} f)

omit [FloatOps F] in
theorem bufA_split (c : Dev nD) (j : Fin 4) : bufA (F := F) c j ⊢ iprop(slotA c j 0 ∗ slotA c j 1) := by
  unfold bufA slotA slotF
  iintro ⟨%f, H⟩
  rw [← slotV_cover j]
  ihave H := (pointsTo_union (slotV_disjoint j)).1 $$ H
  icases H with ⟨H0, H1⟩
  isplitl [H0]
  · iexists f; iexact H0
  · iexists f; iexact H1
omit [FloatOps F] in
theorem bufA_join (c : Dev nD) (j : Fin 4) : iprop(slotA (F := F) c j 0 ∗ slotA c j 1) ⊢ bufA c j := by
  unfold bufA slotA slotF
  iintro ⟨⟨%f, H0⟩, %g, H1⟩
  iexists ((slotV j 1).set.piecewise g f)
  rw [← slotV_cover j]
  iapply (pointsTo_join (slotV_disjoint j))
  isplitl [H0] <;> iassumption

end Cert.KernelIdeal.Chain

end
-- ==== Proof.Run.lean ====
/-
The run: what every device ends with, from any memory.

`fund` makes the ghost state of every cell; `glob` turns the devices' semaphores at zero into the cells'
invariants and deals the tokens; `body_obligation` is the body between the pipeline's fetches and its
write-back; `run_main` is the whole program.
-/
module

public import proofs.«01_k».proof.Proof.Seed
public import Idealize.ShloMosaic.Lib.Quiescent
public import Idealize.ShloMosaic.Lib.Pipeline.CollectiveSegs

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Out
variable (X : Dev nD → (cc0_stg0_0 : Ref sig .tc).ty.Contents (Elt F)) (Y : Dev nD → (cc0_stg1_0 : Ref sig .tc).ty.Contents (Elt F))

/-! ## The result's block -/

/-- An index of the result's block, within its chain's columns. -/
def colIx (y : S512x4096.Idx) : S512x1024.Idx := fun a => match a with
  | ⟨0, _⟩ => ⟨(y 0).val, (y 0).isLt⟩
  | ⟨1, _⟩ => ⟨(y 1).val % 1024, Nat.mod_lt _ (by decide)⟩

/-- Each chain's columns hold what the chain computed. -/
def outV (c : Dev nD) : (cc0_stg2_0 : Ref sig .tc).ty.Contents (Elt F) := fun y => outP X Y (chainOf ((y 1).val / 1024)) c (colIx y)

omit [FloatOps F] in
theorem putO_in (j : Fin 4) (v : FVec F S512x1024 .f32) (f : (cc0_stg2_0 : Ref sig .tc).ty.Contents (Elt F)) (y : S512x4096.Idx)
    (h : (y 1).val / 1024 * 1024 = colLo j) : putO j v f y = v (colIx y) := by
  have e : y = ((oM : Memref sig .tc .vmem S512x4096 .f32).access (colR j)).emb (colIx y) := by
    funext a
    match a with
    | ⟨0, _⟩ => exact Fin.ext (show (y 0).val = 0 + 1 * (y 0).val by omega)
    | ⟨1, _⟩ => exact Fin.ext (show (y 1).val = colLo j + 1 * ((y 1).val % 1024) by omega)
  unfold putO
  conv_lhs => rw [e]
  exact View.write_emb_of_mem _ _ (Finset.mem_univ _)

omit [FloatOps F] in
theorem putO_out (j : Fin 4) (v : FVec F S512x1024 .f32) (f : (cc0_stg2_0 : Ref sig .tc).ty.Contents (Elt F)) (y : S512x4096.Idx)
    (h : (y 1).val / 1024 * 1024 ≠ colLo j) : putO j v f y = f y := by
  refine View.write_of_not_mem _ _ _ fun hm => h ?_
  obtain ⟨x, -, e⟩ := Finset.mem_map.mp hm
  have h1 : colLo j + 1 * (x 1).val = (y 1).val := congrArg (fun z : S512x4096.Idx => (z 1).val) e
  have h2 : (x 1).val < 1024 := (x 1).isLt
  have hq : ∀ j : Fin 4, colLo j % 1024 = 0 := by decide
  have h3 : ∃ q, colLo j = 1024 * q := ⟨colLo j / 1024, by have := hq j; omega⟩
  obtain ⟨q, hq⟩ := h3
  omega

theorem outO_eq (c : Dev nD) (f : (cc0_stg2_0 : Ref sig .tc).ty.Contents (Elt F)) : outO X Y c f = outV X Y c := by
  funext y
  unfold outO outV
  have hy : (y 1).val < 4096 := (y 1).isLt
  obtain h | h | h | h : (y 1).val / 1024 = 0 ∨ (y 1).val / 1024 = 1 ∨ (y 1).val / 1024 = 2 ∨ (y 1).val / 1024 = 3 := by omega
  · rw [putO_out 3 _ _ y (by rw [h]; decide), putO_out 2 _ _ y (by rw [h]; decide), putO_out 1 _ _ y (by rw [h]; decide),
      putO_in 0 _ _ y (by rw [h]; decide), h]; rfl
  · rw [putO_out 3 _ _ y (by rw [h]; decide), putO_in 2 _ _ y (by rw [h]; decide), h]; rfl
  · rw [putO_out 3 _ _ y (by rw [h]; decide), putO_out 2 _ _ y (by rw [h]; decide), putO_in 1 _ _ y (by rw [h]; decide), h]; rfl
  · rw [putO_in 3 _ _ y (by rw [h]; decide), h]; rfl

/-! ## Start and end of a device -/

omit X Y in
theorem WP_fupd (c : Dev nD) (p : PG F PUnit) (Q : PUnit → sProp 𝕄) :
    WP c p (fun a => iprop(|={Set.univ}=> Q a)) ⊢ WP c p Q := Idealize.SL.Sem.wp_fupd _ _ _ p Q
omit X Y in
theorem WP_dev (c : Dev nD) (k : Dev nD → PG F PUnit) (Q : PUnit → sProp 𝕄) :
    WP c (k c) Q ⊢ WP c (.op .deviceId k) Q := by
  unfold WP; simp only [wp_deviceId]; exact Entails.of_eq rfl

/-- What a device holds at the start beside what everyone knows. -/
def begin (c : Dev nD) : sProp 𝕄 :=
  iprop(Ba c ∗ all4 (fun j => iprop(St0 c j ∗ hopTok c j 0 ∗ hopCr c j 0)) ∗ Tks c 14)

theorem begin_intro (K : Dev nD × Fin 21 → ℕ) (c : Dev nD) :
    iprop(Ctx X Y K ∗ (all4 (cell5 (fun g => atPos ER g 0 ∅ 0) c) ∗ atPos ER (barCell c) 0 ∅ 0) ∗ payToks c
        ∗ Pipeline.launchCred (fun d => owedL (payAll d)) c)
      ⊢ begin c := by
  have h5 (j : Fin 4) : iprop(Ctx X Y K ∗ cell5 (fun g => atPos ER g 0 ∅ 0) c j) ⊢ St0 c j := by
    unfold cell5 St0
    iintro ⟨#HC, A0, A1, A2, A3, A4⟩
    isplitl [A0]
    · isplitl [A0]; · iexact A0
      iapply (reach_rcv X Y K c j 1); iexact HC
    isplitl [A1]
    · isplitl [A1]; · iexact A1
      iapply (reach_rcv X Y K c j 0); iexact HC
    isplitl [A2]
    · isplitl [A2]; · iexact A2
      iapply (reach_snd X Y K c j 0); iexact HC
    isplitl [A3]
    · isplitl [A3]; · iexact A3
      iapply (reach_snd X Y K c j 1); iexact HC
    isplitl [A4]; · iexact A4
    iapply (reach_crd X Y K c j); iexact HC
  unfold begin Ba
  iintro ⟨#HC, ⟨HA, Hb⟩, HT, HL⟩
  ihave HT := (payToks_split (F := F) c) $$ HT
  icases HT with ⟨⟨HbF, HbT⟩, HT0, HTs⟩
  ihave HL := (launch_all (F := F) c) $$ HL
  icases HL with ⟨Hcb, HL0, HLs⟩
  isplitl [Hb Hcb HbF HbT]
  · isplitl [Hb]
    · isplitl [Hb]; · iexact Hb
      iapply (reach_bar X Y K c); iexact HC
    isplitl [Hcb]; · iexact Hcb
    isplitl [HbT] <;> iassumption
  isplitl [HA HT0 HL0]
  · unfold all4
    icases HA with ⟨A0, A1, A2, A3⟩
    icases HT0 with ⟨T0, T1, T2, T3⟩
    icases HL0 with ⟨L0, L1, L2, L3⟩
    isplitl [A0 T0 L0]
    · isplitl [A0]
      · iapply (h5 0); isplitr; · iexact HC
        iexact A0
      isplitl [T0] <;> iassumption
    isplitl [A1 T1 L1]
    · isplitl [A1]
      · iapply (h5 1); isplitr; · iexact HC
        iexact A1
      isplitl [T1] <;> iassumption
    isplitl [A2 T2 L2]
    · isplitl [A2]
      · iapply (h5 2); isplitr; · iexact HC
        iexact A2
      isplitl [T2] <;> iassumption
    isplitl [A3]
    · iapply (h5 3); isplitr; · iexact HC
      iexact A3
    isplitl [T3] <;> iassumption
  iapply (down_merge (F := F) c 14)
  isplitl [HLs] <;> iassumption

/-- A chain's cells closed, its buffer whole again. -/
theorem chain_close (K : Dev nD × Fin 21 → ℕ) (c : Dev nD) (j : Fin 4) :
    iprop(Ctx X Y K ∗ StE c j) ⊢ |={Set.univ}=> iprop(cell5 (fun g => semVal g 0) c j ∗ bufA (F := F) c j) := by
  unfold StE cell5
  iintro ⟨#HC, ⟨A0, -⟩, ⟨A1, -⟩, ⟨A2, -⟩, ⟨A3, -⟩, ⟨A4, -⟩, S0, S1⟩
  imod (Rounds.cell_close ER (Rd X Y) (Set.mem_univ (K (c, kR j 1))) (fun h => h) (R := 8) (later_rcv X Y c j 1 8 (by decide))) $$ [A0] with V0
  · isplitr; · iapply (inv_rcv X Y K c j 1); iexact HC
    iexact A0
  imod (Rounds.cell_close ER (Rd X Y) (Set.mem_univ (K (c, kR j 0))) (fun h => h) (R := 7) (later_rcv X Y c j 0 7 (by decide))) $$ [A1] with V1
  · isplitr; · iapply (inv_rcv X Y K c j 0); iexact HC
    iexact A1
  imod (Rounds.cell_close ER (Rd X Y) (Set.mem_univ (K (c, kS j 0))) (fun h => h) (R := 8) (later_snd X Y c j 0 8 (by decide))) $$ [A2] with V2
  · isplitr; · iapply (inv_snd X Y K c j 0); iexact HC
    iexact A2
  imod (Rounds.cell_close ER (Rd X Y) (Set.mem_univ (K (c, kS j 1))) (fun h => h) (R := 7) (later_snd X Y c j 1 7 (by decide))) $$ [A3] with V3
  · isplitr; · iapply (inv_snd X Y K c j 1); iexact HC
    iexact A3
  imod (Rounds.cell_close ER (Rd X Y) (Set.mem_univ (K (c, kC j))) (fun h => h) (R := 14) (later_crd X Y c j)) $$ [A4] with V4
  · isplitr; · iapply (inv_crd X Y K c j); iexact HC
    iexact A4
  imodintro
  isplitr [S0 S1]
  · isplitl [V0]; · iexact V0
    isplitl [V1]; · iexact V1
    isplitl [V2]; · iexact V2
    isplitl [V3]; · iexact V3
    iexact V4
  iapply (bufA_join (F := F) c j)
  isplitl [S0] <;> iassumption

/-- What a device hands back: its semaphores at zero, its buffers. -/
def ended (c : Dev nD) : sProp 𝕄 :=
  iprop((bigSep Finset.univ fun k : Fin 21 => semVal (kcell (c, k)) 0) ∗ all4 (bufA (F := F) c))

theorem ended_intro (K : Dev nD × Fin 21 → ℕ) (c : Dev nD) :
    iprop(Ctx X Y K ∗ atR (barCell c) 1 ∗ all4 (fun j => StE c j)) ⊢ |={Set.univ}=> ended (F := F) c := by
  unfold ended
  rw [cells_eq (fun g => semVal g 0)]
  unfold all4
  iintro ⟨#HC, ⟨Hb, -⟩, E0, E1, E2, E3⟩
  imod (Rounds.cell_close ER (Rd X Y) (Set.mem_univ (K (c, kB))) (fun h => h) (R := 1) (later_bar X Y c)) $$ [Hb] with Vb
  · isplitr; · iapply (inv_bar X Y K c); iexact HC
    iexact Hb
  imod (chain_close X Y K c 0) $$ [E0] with ⟨V0, B0⟩
  · isplitr; · iexact HC
    iexact E0
  imod (chain_close X Y K c 1) $$ [E1] with ⟨V1, B1⟩
  · isplitr; · iexact HC
    iexact E1
  imod (chain_close X Y K c 2) $$ [E2] with ⟨V2, B2⟩
  · isplitr; · iexact HC
    iexact E2
  imod (chain_close X Y K c 3) $$ [E3] with ⟨V3, B3⟩
  · isplitr; · iexact HC
    iexact E3
  imodintro
  isplitr [B0 B1 B2 B3]
  · isplitr [Vb]
    · isplitl [V0]; · iexact V0
      isplitl [V1]; · iexact V1
      isplitl [V2]; · iexact V2
      iexact V3
    iexact Vb
  isplitl [B0]; · iexact B0
  isplitl [B1]; · iexact B1
  isplitl [B2]; · iexact B2
  iexact B3

/-- The body from a device's start to its end. -/
theorem wp_body (K : Dev nD × Fin 21 → ℕ) (c : Dev nD) {f} {Q : PUnit → sProp 𝕄} :
    iprop(Ctx X Y K ∗ XW X Y c ∗ begin c ∗ all4 (bufA (F := F) c) ∗ outF c f ∗ owing c (payAll c))
      ⊢ iprop(((XW X Y c ∗ ended c ∗ outF c (outV X Y c) ∗ owing c []) -∗ Q ⟨⟩) -∗ WP c (bodyC c) Q) := by
  unfold begin
  iintro ⟨#HC, HX, ⟨HB, HS, HT⟩, HM, Hout, HO⟩ Hk
  rw [← outO_eq X Y c f]
  unfold all4
  icases HS with ⟨⟨S0, T0, C0⟩, ⟨S1, T1, C1⟩, ⟨S2, T2, C2⟩, ⟨S3, T3, C3⟩⟩
  icases HM with ⟨M0, M1, M2, M3⟩
  ihave M0 := (bufA_split (F := F) c 0) $$ M0
  ihave M1 := (bufA_split (F := F) c 1) $$ M1
  ihave M2 := (bufA_split (F := F) c 2) $$ M2
  ihave M3 := (bufA_split (F := F) c 3) $$ M3
  icases M0 with ⟨M0, N0⟩
  icases M1 with ⟨M1, N1⟩
  icases M2 with ⟨M2, N2⟩
  icases M3 with ⟨M3, N3⟩
  iapply (WP_fupd c (bodyC c) Q)
  iapply (wp_bodyC X Y K c (f := f)) $$ [HX HB S0 T0 C0 S1 T1 C1 S2 T2 C2 S3 T3 C3 M0 M1 M2 M3 N0 N1 N2 N3 HT Hout HO]
  · isplitr; · iexact HC
    isplitl [HX]; · iexact HX
    isplitl [HB]; · iexact HB
    isplitl [S0 T0 C0 S1 T1 C1 S2 T2 C2 S3 T3 C3 M0 M1 M2 M3]
    · unfold all4 Ch
      isplitl [S0 T0 C0 M0]
      · isplitl [S0]; · iexact S0
        isplitl [M0]; · iexact M0
        isplitl [T0] <;> iassumption
      isplitl [S1 T1 C1 M1]
      · isplitl [S1]; · iexact S1
        isplitl [M1]; · iexact M1
        isplitl [T1] <;> iassumption
      isplitl [S2 T2 C2 M2]
      · isplitl [S2]; · iexact S2
        isplitl [M2]; · iexact M2
        isplitl [T2] <;> iassumption
      isplitl [S3]; · iexact S3
      isplitl [M3]; · iexact M3
      isplitl [T3] <;> iassumption
    isplitl [N0 N1 N2 N3]
    · unfold all4
      isplitl [N0]; · iexact N0
      isplitl [N1]; · iexact N1
      isplitl [N2]; · iexact N2
      iexact N3
    isplitl [HT]; · iexact HT
    isplitl [Hout]; · iexact Hout
    iexact HO
  iintro ⟨HX, Hb, HE, Hout, HO⟩
  imod (ended_intro X Y K c) $$ [Hb HE] with HE
  · isplitr; · iexact HC
    isplitl [Hb]; · iexact Hb
    iexact HE
  imodintro
  iapply Hk
  isplitl [HX]; · iexact HX
  isplitl [HE]; · iexact HE
  isplitl [Hout]; · iexact Hout
  iexact HO

end Out

/-! ## The pipeline's proof data -/

variable (m : (ℓ : Loc nD τ sig) → Buf (Elt F) ℓ) (ρ : Dev nD → PrngReg)

def s₀ : MemSt nD τ sig (Elt F) := ⟨m, fun _ => 0, ρ⟩
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

def start (c : Dev nD) : sProp 𝕄 := iprop((∃ K, Ctx (xstg m ρ) (wstg m ρ) K) ∗ begin c)
def Φ₀ (c : Dev nD) : sProp 𝕄 := iprop(start m ρ c ∗ all4 (bufA (F := F) c))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV (xstg m ρ) (wstg m ρ) c
  Φ t := match t with
    | ⟨0, _⟩ => Φ₀ m ρ c
    | ⟨_ + 1, _⟩ => ended c
  q _ := fullShare
  owed t := match t with
    | ⟨0, _⟩ => owedL (payAll c)
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(ended c ∗ (dats m ρ 0 c).owesAt 0 t0_0.succ ∗ stg c cc0_stg0_0 (xstg m ρ c) ∗ stg c cc0_stg1_0 (wstg m ρ c)
    ∗ stg c cc0_stg2_0 (outV (xstg m ρ) (wstg m ρ) c))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

theorem sound_body (c : Dev nD) : bodyPre m ρ c ⊢ WP c (.op .deviceId fun c => bodyC c) (fun _ => bodyPost m ρ c) := by
  unfold bodyPre bodyPost Φ₀ start Dat.owesAt
  simp only [before_x, before_w]
  iintro ⟨⟨⟨⟨%K, #HC⟩, Hs⟩, HM⟩, ⟨%W, -, HO⟩, ⟨%d0, %f0, %h0, Hx⟩, ⟨%d1, %f1, %h1, Hw⟩, ⟨%d2, %f2, -, Ho⟩⟩
  subst h0 h1
  iapply (WP_dev c (fun c => bodyC c) _)
  iapply (wp_body (xstg m ρ) (wstg m ρ) K c (f := f2)) $$ [Hs HM HO Hx Hw Ho]
  · isplitr; · iexact HC
    isplitl [Hx Hw]
    · unfold XW
      isplitl [Hx]; · iexact Hx
      iexact Hw
    isplitl [Hs]; · iexact Hs
    isplitl [HM]; · iexact HM
    isplitl [Ho]
    · unfold outF; iexact Ho
    unfold owing
    iexists W
    iexact HO
  unfold XW outF owing
  iintro ⟨⟨Hx, Hw⟩, HE, Ho, ⟨%W', HO⟩⟩
  isplitl [HE]; · iexact HE
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

set_option maxRecDepth 8000 in
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  have hd : defs₀ (F := F) Proc.tc 0 (t0_0, cfg0.slots t0_0) = .op .deviceId fun c => bodyC c := body_eq
  have h0 : (dats (F := F) m ρ 0 c).Φ t0_0.castSucc = Φ₀ m ρ c := rfl
  have h1 : (dats (F := F) m ρ 0 c).Φ t0_0.succ = ended c := rfl
  have a0 : (dats (F := F) m ρ 0 c).after (0 : Fin 3) t0_0 = xstg m ρ c := rfl
  have a1 : (dats (F := F) m ρ 0 c).after (1 : Fin 3) t0_0 = wstg m ρ c := rfl
  have a2 : (dats (F := F) m ρ 0 c).after (2 : Fin 3) t0_0 = outV (xstg m ρ) (wstg m ρ) c := rfl
  rw [hd, h0, h1]
  refine (show _ ⊢ bodyPre m ρ c from ?_).trans ((sound_body m ρ c).trans ?_)
  · exact Entails.of_eq rfl
  · unfold WP bodyPost stg
    erw [a0, a1, a2]

/-! ## The launch -/

theorem ownSemFacts : Pipeline.OwnSemFacts cfg0.spec osem := by decide
theorem share_eq (c : Dev nD) (w : Fin cfg0.W) : (dats m ρ 0 c).share w = fullShare := by unfold Dat.share; split <;> rfl

def ringCells : Finset (GSem nD τ sig) := Finset.univ.map ⟨kcell, kcell_injective⟩
def ringToks : Finset (GSem nD τ sig × ℕ × Bool) := Finset.univ.map ⟨tokOf, tokOf_injective⟩
def u₀ : UU := (initOf (Pipeline.cells cfgs cellOf_inj) (Pipeline.launchToks cfgs cellOf_inj), initOf ringCells ringToks)

/-- The cells' ghost state as made, per device; as shared out. -/
def G (c : Dev nD) : sProp 𝕄 :=
  iprop((bigSep Finset.univ fun k : Fin 21 => roundState ER (Rd (xstg m ρ) (wstg m ρ)) (kcell (c, k)) 0)
    ∗ (bigSep Finset.univ fun k : Fin 21 => iprop(atPos ER (kcell (c, k)) 0 ∅ 0 ∗ reached ER (kcell (c, k)) 0)) ∗ toks c)
def G' (c : Dev nD) : sProp 𝕄 :=
  iprop((∃ K, allInv (xstg m ρ) (wstg m ρ) K ∗ allReach (F := F)) ∗ (bigSep Finset.univ fun k : Fin 21 => atPos ER (kcell (c, k)) 0 ∅ 0) ∗ payToks c)

theorem fund : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd (xstg m ρ) (wstg m ρ)) ringCells ringToks) $$ HX with ⟨Hst, Hr, Hat, Htok⟩
  imodintro
  ihave Hst := (Entails.of_eq (hX fun g => roundState ER (Rd (xstg m ρ) (wstg m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) : iprop(Pipeline.ownSems0 (Ix := ℕ) (Name := ℕ) (U := UU) (Lvl := ℕ) (Val := Elt F) (τ := τ) osem c ∗ unscopedSems0 c)
    = (bigSep Finset.univ fun k : Fin 21 => semVal (kcell (c, k)) 0 : sProp 𝕄) := by
  rw [unscopedSems0_eq, cells_last (fun g => semVal g 0)]; rfl

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (xstg m ρ) (wstg m ρ)) κ (kcell (c, k))))
          ∗ (bigSep Finset.univ fun k => iprop(atPos ER (kcell (c, k)) 0 ∅ 0 ∗ reached ER (kcell (c, k)) 0)) ∗ toks c) := by
  have hv := Entails.of_eq (sems_eq (F := F) c)
  have ha : iprop((bigSep Finset.univ fun k : Fin 21 => semVal (kcell (c, k)) 0)
      ∗ bigSep Finset.univ fun k : Fin 21 => roundState ER (Rd (xstg m ρ) (wstg m ρ)) (kcell (c, k)) 0)
      ⊢ (|={Set.univ}=> bigSep Finset.univ fun k => iprop(∃ κ : ℕ, cellInv ER (Rd (xstg m ρ) (wstg m ρ)) κ (kcell (c, k))) : sProp 𝕄) := by
    rw [← bigSep_sep']
    exact (bigSep_mono fun k _ => (Rounds.body_intro ER (Rd (xstg m ρ) (wstg m ρ)) (kcell (c, k))).trans inv_alloc).trans (bigSep_fupd _ _)
  unfold G
  iintro ⟨Hv, Hu, Hst, Hat, Htok⟩
  imod ha $$ [Hv Hu Hst] with Hinv
  · isplitl [Hv Hu]
    · iapply hv; isplitl [Hv] <;> iassumption
    iexact Hst
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (xstg m ρ) (wstg m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 21 => iprop(∃ κ : ℕ, cellInv ER (Rd (xstg m ρ) (wstg m ρ)) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  have hp (K : Dev nD × Fin 21 → ℕ) (c : Dev nD) :
      iprop((allInv (xstg m ρ) (wstg m ρ) K ∗ allReach (F := F)) ∗ ((bigSep Finset.univ fun k : Fin 21 => atPos ER (kcell (c, k)) 0 ∅ 0) ∗ payToks c)) ⊢ G' m ρ c := by
    unfold G'
    iintro ⟨HI, Ha, Ht⟩
    isplitl [HI]
    · iexists K; iexact HI
    isplitl [Ha] <;> iassumption
  have hpers (K : Dev nD × Fin 21 → ℕ) : BI.Persistent iprop(allInv (xstg m ρ) (wstg m ρ) K ∗ allReach (F := F)) := by unfold allInv allReach; infer_instance
  iintro ⟨HI, ⟨Hat, HR⟩, Htok⟩
  ihave HK := (BI.bigSep_exists_pi Finset.univ (fun (ck : Dev nD × Fin 21) (κ : ℕ) => (cellInv ER (Rd (xstg m ρ) (wstg m ρ)) κ (kcell ck) : sProp 𝕄))) $$ HI
  icases HK with ⟨%K, HI⟩
  ihave Htk := (toks_around (F := F)) $$ Htok
  iapply (bigSep_with_persistent (R := iprop(allInv (xstg m ρ) (wstg m ρ) K ∗ allReach (F := F))) fun c _ => hp K c)
  isplitl [HI HR]
  · unfold allInv allReach
    isplitl [HI]; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred (fun d => owedL (payAll d)) c ∗ prngReg c (ρ c) ∗ G' m ρ c)
      ⊢ |={Set.univ}=> iprop(start m ρ c ∗ emp) := by
  have hb (K : Dev nD × Fin 21 → ℕ) := begin_intro (xstg m ρ) (wstg m ρ) K c
  unfold G' start
  rw [cells_eq (fun g => atPos ER g 0 ∅ 0)]
  iintro ⟨-, Hlev, Hcr, -, ⟨⟨%K, HI, HR⟩, HA, HT⟩⟩
  ihave HC := (show iprop(levAts L lv ∗ allInv (xstg m ρ) (wstg m ρ) K ∗ allReach (F := F)) ⊢ Ctx (xstg m ρ) (wstg m ρ) K from by
    unfold Ctx
    iintro ⟨A, B, C⟩
    isplitl [B]; · iexact B
    isplitl [C] <;> iassumption) $$ [Hlev HI HR]
  · isplitl [Hlev]; · iexact Hlev
    isplitl [HI] <;> iassumption
  icases HC with #HC
  imodintro
  isplitl
  · isplitr
    · iexists K; iexact HC
    iapply (hb K)
    isplitr; · iexact HC
    isplitl [HA]; · iexact HA
    isplitl [HT]; · iexact HT
    iexact Hcr
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ all4 bufA
  iintro ⟨Hs, -, H0, H2, H1, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended c from rfl, scopedRest0_eq]
  unfold ended all4 bufA
  rw [← sems_eq]
  iintro ⟨⟨Hz, Hu⟩, H0, H1, H2, H3⟩
  isplitl [Hu]; · iexact Hu
  isplitl [Hz]; · iexact Hz
  isplitl [H0]; · iexact H0
  isplitl [H2]; · iexact H2
  isplitl [H1]; · iexact H1
  iexact H3

theorem mayWait_stage (c : Dev nD) (sm : SemLoc sig) (h : kind sm = .none) (O : CellTallies nD τ sig ℕ) (hO : O = owedL (payAll c) ∨ O = 0) :
    (levAts L lv : sProp 𝕄) ⊢ MayWait (c : Thread nD τ) sm 0 O := by
  rcases hO with rfl | rfl
  · exact mayWait c sm 0 0 (payAll c) (by decide) (by rw [h]; exact le_rfl) (Above.all c)
  · exact mayWait c sm 0 0 [] (by decide) (by rw [h]; exact le_rfl) (Above.nil 0)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every fair execution of the sixteen devices terminates, and every final state has
    each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owedL (payAll d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Chain

end
-- ==== Proof.Value.lean ====
/-
The values: what `run_main` leaves in the result is each device's block of the reference's result.

A device's message of hop `h` on a chain is the sum, over the `h + 1` devices it has passed, of their products on
the rows of the device the chain ends at. A ring of sixteen devices passes every device once, so the chain's end
holds the sum over all devices of the products on its own rows; and the reference's contraction over 8192 is the
sum over the devices of the contractions over their 512.
-/
module

public import proofs.«01_k».proof.Proof.Run
public import proofs.«01_k».proof.Proof.Gen.ReferenceIdeal.Run
public import proofs.«01_k».proof.Defs
public import Idealize.ShloMosaic.Lib.MatmulPlain
public import Idealize.ShloMosaic.Lib.StackMember
public import Idealize.ShloMosaic.Lib.IdealHost
public import Idealize.ShloMosaic.Lib.Pipeline.Value

@[expose] public section

noncomputable section

namespace Cert.KernelIdeal.Chain

open Cert.KernelIdeal Cert.KernelIdeal.Gen
open Idealize.ShloMosaic
open Idealize.ShloMosaic.TcCoe
open Idealize.ShloMosaic.ValueIdx
open Idealize.SL.Sem
open scoped BigOperators

/-! ## The ring, as a table -/

/-- Each device's left and right neighbour. -/
def lT : Fin 16 → Fin 16 := ![1, 2, 6, 0, 7, 9, 5, 3, 4, 10, 14, 8, 15, 12, 13, 11]
def rT : Fin 16 → Fin 16 := ![3, 0, 1, 7, 8, 6, 2, 4, 11, 5, 9, 15, 13, 14, 10, 12]
theorem lft_eq : ∀ c : Dev nD, lft c = lT c := by decide +kernel
theorem rgt_eq : ∀ c : Dev nD, rgt c = rT c := by decide +kernel
theorem lT_inj : ∀ c : Fin 16, Function.Injective fun i : Fin 16 => lT^[i.val] c := by decide +kernel
theorem rT_inj : ∀ c : Fin 16, Function.Injective fun i : Fin 16 => rT^[i.val] c := by decide +kernel
theorem lT_round : ∀ c : Fin 16, lT^[16] c = c := by decide +kernel
theorem rT_round : ∀ c : Fin 16, rT^[16] c = c := by decide +kernel

def upT (j : Fin 4) : Fin 16 → Fin 16 := match j with
  | 0 => lT | 1 => rT | 2 => lT | 3 => rT
theorem ups_eq (j : Fin 4) : (ups j : Dev nD → Dev nD) = upT j := match j with
  | 0 => funext lft_eq | 1 => funext rgt_eq | 2 => funext lft_eq | 3 => funext rgt_eq
theorem upT_inj (j : Fin 4) (c : Fin 16) : Function.Injective fun i : Fin 16 => (upT j)^[i.val] c := match j with
  | 0 => lT_inj c | 1 => rT_inj c | 2 => lT_inj c | 3 => rT_inj c
theorem upT_round (j : Fin 4) (c : Fin 16) : (upT j)^[16] c = c := match j with
  | 0 => lT_round c | 1 => rT_round c | 2 => lT_round c | 3 => rT_round c

/-- A sum along the whole ring is a sum over the devices. -/
theorem sum_ring (j : Fin 4) (c : Fin 16) (g : Fin 16 → EReal) : ∑ i ∈ Finset.range 16, g ((upT j)^[i] c) = ∑ d, g d := by
  rw [Finset.sum_range]
  exact Fintype.sum_bijective _ (Finite.injective_iff_bijective.mp (upT_inj j c)) _ _ fun i => rfl

/-! ## Whose rows a product is for -/

theorem off1_eq : ∀ c : Dev nD, k0_off1 c = ![512 * (lT c).val, 0] := by decide +kernel
theorem off2_eq : ∀ c : Dev nD, k0_off2 c = ![512 * (rT c).val, 0] := by decide +kernel
theorem off3_eq : ∀ (c : Dev nD) (s : Fin 15), k0_off3 c (BitVec.ofNat 32 s.val) = ![512 * (lT^[s.val + 2] c).val, 0] := by decide +kernel
theorem off4_eq : ∀ (c : Dev nD) (s : Fin 15), k0_off4 c (BitVec.ofNat 32 s.val) = ![512 * (rT^[s.val + 2] c).val, 0] := by decide +kernel

theorem off0_eq (j : Fin 4) (c : Dev nD) : off0 j c = ![512 * ((upT j)^[1] c).val, 0] := match j with
  | 0 => off1_eq c | 1 => off2_eq c | 2 => off1_eq c | 3 => off2_eq c
theorem offS_eq (j : Fin 4) (c : Dev nD) (s : Fin 15) : offS j c s = ![512 * ((upT j)^[s.val + 2] c).val, 0] := match j with
  | 0 => off3_eq c s | 1 => off4_eq c s | 2 => off3_eq c s | 3 => off4_eq c s

/-! ## The products -/

section Contents
variable (X : Dev nD → (cc0_stg0_0 : Ref sig .tc).ty.Contents (Elt Ideal)) (Y : Dev nD → (cc0_stg1_0 : Ref sig .tc).ty.Contents (Elt Ideal))

theorem row_lt (t : Fin 16) (r : Fin 512) : 512 * t.val + r.val < 8192 := by omega
theorem col_lt (j : Fin 4) (q : Fin 1024) : colLo j + q.val < 4096 := by
  have h : ∀ j : Fin 4, colLo j ≤ 3072 := by decide
  have := h j; omega

/-- Device `d`'s share of element `(r, z)` of device `t`'s block of the product. -/
def share (X : Fin 16 → S8192x512.Idx → EReal) (Y : Fin 16 → S512x4096.Idx → EReal) (d t : Fin 16) (r : Fin 512) (z : Fin 4096) : EReal :=
  ∑ k : Fin 512, X d (ix2 ⟨512 * t.val + r.val, row_lt t r⟩ k) * Y d (ix2 k z)

theorem prodAt_apply (j : Fin 4) (c : Dev nD) (t : Fin 16) (off : Fin 2 → ℕ) (h) (ho : off = ![512 * t.val, 0]) (r : Fin 512) (q : Fin 1024) :
    prodAt X Y j c off h (ix2 r q) = share X Y c t r ⟨colLo j + q.val, col_lt j q⟩ := by
  subst ho
  unfold prodAt prodv
  rw [shapeCast_self, shapeCast_self]
  refine (Ideal.matmul_plain_apply (M := 512) (K := 512) (N := 1024) none _ _ _ r q).trans ?_
  show Ideal.ofBits .f32 0x00000000#32 + _ = _
  rw [Ideal.ofBits_zero_f32, zero_add]
  refine Finset.sum_congr rfl fun k _ => ?_
  refine congrArg₂ (fun a b : EReal => a * b) ?_ ?_
  · refine congrArg (X c) ?_
    funext a; apply Fin.ext
    match a with
    | ⟨0, _⟩ => exact (show 512 * t.val + 1 * r.val = 512 * t.val + r.val by omega)
    | ⟨1, _⟩ => exact (show 0 + 1 * k.val = k.val by omega)
  · refine congrArg (Y c) ?_
    funext a; apply Fin.ext
    match a with
    | ⟨0, _⟩ => exact (show 0 + 1 * k.val = k.val by omega)
    | ⟨1, _⟩ => exact (show colLo j + 1 * q.val = colLo j + q.val by omega)

theorem prod0_apply (j : Fin 4) (c : Dev nD) (r : Fin 512) (q : Fin 1024) :
    prod0 X Y j c (ix2 r q) = share X Y c ((upT j)^[1] c) r ⟨colLo j + q.val, col_lt j q⟩ := prodAt_apply X Y j c _ _ _ (off0_eq j c) r q
theorem prodS_apply (j : Fin 4) (c : Dev nD) (s : Fin 15) (r : Fin 512) (q : Fin 1024) :
    prodS X Y j c s (ix2 r q) = share X Y c ((upT j)^[s.val + 2] c) r ⟨colLo j + q.val, col_lt j q⟩ := prodAt_apply X Y j c _ _ _ (offS_eq j c s) r q

/-- A message, without its leading axis. -/
def msg (v : FVec Ideal S1x512x1024 .bf16) : S512x1024.Idx → EReal := shapeCast S512x1024 v shapeCasts_S1x512x1024_S512x1024
theorem msg_packv (a : FVec Ideal S512x1024 .f32) : msg (packv a) = a := by
  unfold msg packv
  rw [shapeCast_shapeCast]
  rfl
theorem addv_apply (v : FVec Ideal S1x512x1024 .bf16) (p : FVec Ideal S512x1024 .f32) (i : S512x1024.Idx) :
    addv v p i = (msg v i : EReal) + (p i : EReal) := rfl

/-- The message of hop `h`: the shares of the devices passed. -/
theorem val_apply (j : Fin 4) (r : Fin 512) (q : Fin 1024) : ∀ (h : ℕ) (hh : h < 15) (c : Dev nD), msg (val X Y j h c) (ix2 r q)
    = ∑ i ∈ Finset.range (h + 1), share X Y ((upT j)^[i] c) ((upT j)^[h + 1] c) r ⟨colLo j + q.val, col_lt j q⟩
  | 0, _, c => by
    rw [show val X Y j 0 c = packv (prod0 X Y j c) from rfl, msg_packv, prod0_apply, Finset.sum_range_one]; rfl
  | h + 1, hh, c => by
    rw [show val X Y j (h + 1) c = packv (addv (val X Y j h (ups j c)) (prodS X Y j c (step15 h))) from rfl, msg_packv, addv_apply,
      val_apply j r q h (by omega) (ups j c), prodS_apply, Finset.sum_range_succ' _ (h + 1), ups_eq,
      show (step15 h).val = h from Nat.mod_eq_of_lt (by omega)]
    rfl

/-- The kernel's gelu of one number. -/
def geluE (z : EReal) : EReal :=
  (Ideal.ofBits .f32 0x3F000000#32 * z) * (Ideal.ofBits .f32 0x3F800000#32
    + Ideal.tanh (Ideal.ofBits .f32 0x3F4C422A#32 * (z + Ideal.ofBits .f32 0x3D372713#32 * z * z * z)))
theorem geluv_apply (a : FVec Ideal S512x1024 .f32) (i : S512x1024.Idx) : geluv a i = geluE (a i) := rfl

theorem outP_apply (j : Fin 4) (c : Dev nD) (r : Fin 512) (q : Fin 1024) :
    outP X Y j c (ix2 r q) = geluE (∑ d, share X Y d c r ⟨colLo j + q.val, col_lt j q⟩) := by
  unfold outP
  rw [geluv_apply, addv_apply, val_apply X Y j r q 14 (by decide), prodS_apply, ups_eq,
    ← sum_ring j c fun d => share X Y d c r ⟨colLo j + q.val, col_lt j q⟩, Finset.sum_range_succ' _ 15]
  have e : (upT j)^[14 + 1] (upT j c) = c := upT_round j c
  have e' : (upT j)^[(14 : Fin 15).val + 2] c = c := upT_round j c
  rw [e, e']
  rfl

theorem outV_apply (c : Dev nD) (r : Fin 512) (z : Fin 4096) : outV X Y c (ix2 r z) = geluE (∑ d, share X Y d c r z) := by
  have hc : ∀ n : Fin 4, colLo (chainOf n.val) = 1024 * n.val := by decide
  have hn := hc ⟨z.val / 1024, by omega⟩
  have hz : colLo (chainOf (z.val / 1024)) + z.val % 1024 = z.val := by
    have : colLo (chainOf (z.val / 1024)) = 1024 * (z.val / 1024) := hn
    omega
  have hi : colIx (ix2 r z) = ix2 r ⟨z.val % 1024, Nat.mod_lt _ (by decide)⟩ := by
    funext a
    match a with
    | ⟨0, _⟩ => rfl
    | ⟨1, _⟩ => rfl
  show outP X Y (chainOf (z.val / 1024)) c (colIx (ix2 r z)) = _
  rw [hi, outP_apply]
  exact congrArg (fun w : Fin 4096 => geluE (∑ d, share X Y d c r w)) (Fin.ext hz)

end Contents

/-! ## The reference -/

section Ref
variable (A : (⟨Cert.ReferenceIdeal.S8192x8192, .bf16⟩ : BufTy).Contents (Elt Ideal)) (B : (⟨Cert.ReferenceIdeal.S8192x4096, .bf16⟩ : BufTy).Contents (Elt Ideal))

/-- The whole product, and the reference's result. -/
def prodR (A : Cert.ReferenceIdeal.S8192x8192.Idx → EReal) (B : Cert.ReferenceIdeal.S8192x4096.Idx → EReal) : Fin 8192 → Fin 4096 → EReal :=
  fun R z => ∑ k : Fin 8192, A (ix2 R k) * B (ix2 k z)
def refR : (⟨Cert.ReferenceIdeal.S8192x4096, .f32⟩ : BufTy).Contents (Elt Ideal) := fun y => geluE (prodR A B (y 0) (y 1))

theorem sum_blocks (g : Fin 8192 → EReal) : ∑ k, g k = ∑ d : Fin 16, ∑ k : Fin 512, g ⟨512 * d.val + k.val, row_lt d k⟩ := by
  rw [← Fintype.sum_prod_type' (f := fun (d : Fin 16) (k : Fin 512) => g ⟨512 * d.val + k.val, row_lt d k⟩)]
  refine (Fintype.sum_equiv (finProdFinEquiv (m := 16) (n := 512)) _ _ fun x => ?_).symm
  exact congrArg g (Fin.ext (Nat.add_comm _ _))

theorem prodR_eq (c : Fin 16) (r : Fin 512) (z : Fin 4096) :
    prodR A B ⟨512 * c.val + r.val, row_lt c r⟩ z
      = ∑ d, share (fun d => Layout.block ⟨2, ![8192, 512]⟩ ⟨2, ![8192, 8192]⟩ 1 16 d A) (fun d => Layout.block ⟨2, ![512, 4096]⟩ ⟨2, ![8192, 4096]⟩ 0 16 d B) d c r z := by
  unfold prodR share
  rw [sum_blocks]
  refine Finset.sum_congr rfl fun d _ => Finset.sum_congr rfl fun k _ => ?_
  refine congrArg₂ (fun a b : EReal => a * b) ?_ ?_
  · refine congrArg A ?_
    funext a; apply Fin.ext
    match a with
    | ⟨0, _⟩ => rfl
    | ⟨1, _⟩ => exact (show 512 * d.val + k.val = d.val * 512 + k.val by omega)
  · refine congrArg B ?_
    funext a; apply Fin.ext
    match a with
    | ⟨0, _⟩ => exact (show 512 * d.val + k.val = d.val * 512 + k.val by omega)
    | ⟨1, _⟩ => rfl

/-- The reference's product, as printed: in f32, rounded to bf16, and cast back. -/
def hostDot : FVec Ideal Cert.ReferenceIdeal.S8192x4096 .f32 :=
  extf .f32 (truncf .bf16 (Host.dotGeneral (φ₁ := .bf16) (φ₂ := .bf16) Cert.ReferenceIdeal.dot_S8192x8192_S8192x4096_S8192x4096_1_0_0_1_n_n none A B)
    Cert.ReferenceIdeal.Gen.facts.bitsLt_bf16_f32) Cert.ReferenceIdeal.Gen.facts.bitsLt_bf16_f32

/-- The reference's gelu, as printed. -/
def hostGelu (D : FVec Ideal Cert.ReferenceIdeal.S8192x4096 .f32) : FVec Ideal Cert.ReferenceIdeal.S8192x4096 .f32 :=
  mulf (mulf (broadcastInDim Cert.ReferenceIdeal.S8192x4096 ![] Cert.ReferenceIdeal.Gen.facts.bcast_S_S8192x4096 (constant Cert.ReferenceIdeal.S_ .f32 0x3F000000#32)) D)
    (addf (broadcastInDim Cert.ReferenceIdeal.S8192x4096 ![] Cert.ReferenceIdeal.Gen.facts.bcast_S_S8192x4096 (constant Cert.ReferenceIdeal.S_ .f32 0x3F800000#32))
      (Host.tanh (mulf (broadcastInDim Cert.ReferenceIdeal.S8192x4096 ![] Cert.ReferenceIdeal.Gen.facts.bcast_S_S8192x4096 (constant Cert.ReferenceIdeal.S_ .f32 0x3F4C422A#32))
        (addf D (mulf (broadcastInDim Cert.ReferenceIdeal.S8192x4096 ![] Cert.ReferenceIdeal.Gen.facts.bcast_S_S8192x4096 (constant Cert.ReferenceIdeal.S_ .f32 0x3D372713#32))
          (mulf (mulf D D) D))))))

theorem hostGelu_apply (D : FVec Ideal Cert.ReferenceIdeal.S8192x4096 .f32) (y : Cert.ReferenceIdeal.S8192x4096.Idx) (z : EReal) (h : D y = z) :
    hostGelu D y = geluE z := by
  subst h
  refine (show hostGelu D y = (Ideal.ofBits .f32 0x3F000000#32 * D y) * (Ideal.ofBits .f32 0x3F800000#32
    + Ideal.tanh (Ideal.ofBits .f32 0x3F4C422A#32 * (D y + Ideal.ofBits .f32 0x3D372713#32 * (D y * D y * D y)))) from rfl).trans ?_
  have h3 (a b : EReal) : a * (b * b * b) = a * b * b * b := by rw [mul_assoc b b b, ← mul_assoc a b, ← mul_assoc (a * b) b b]
  unfold geluE
  rw [h3]

/-- The printed reference's term is `refR`. -/
theorem ref_eq : hostGelu (hostDot A B) = refR A B := by
  funext y
  obtain ⟨R, z, rfl⟩ : ∃ (R : Fin 8192) (z : Fin 4096), y = ix2 R z := ⟨y 0, y 1, by
    funext a
    match a with
    | ⟨0, _⟩ => rfl
    | ⟨1, _⟩ => rfl⟩
  exact hostGelu_apply _ _ _ (StackMember.dotGeneral_plain_apply (φ₁ := .bf16) (φ₂ := .bf16) (m := 8192) (n := 4096) none A B R z)

/-- Each device's block of the reference's result is what the chains leave on it. -/
theorem out_eq (c : Fin 16) :
    outV (fun d => Layout.block ⟨2, ![8192, 512]⟩ ⟨2, ![8192, 8192]⟩ 1 16 d A) (fun d => Layout.block ⟨2, ![512, 4096]⟩ ⟨2, ![8192, 4096]⟩ 0 16 d B) c
      = Layout.block ⟨2, ![512, 4096]⟩ ⟨2, ![8192, 4096]⟩ 0 16 c (refR A B) := by
  funext y
  obtain ⟨r, z, rfl⟩ : ∃ (r : Fin 512) (z : Fin 4096), y = ix2 r z := ⟨y 0, y 1, by
    funext a
    match a with
    | ⟨0, _⟩ => rfl
    | ⟨1, _⟩ => rfl⟩
  rw [outV_apply, ← prodR_eq A B c r z]
  refine congrArg (fun R : Fin 8192 => geluE (prodR A B R z)) (Fin.ext ?_)
  exact (show 512 * c.val + r.val = c.val * 512 + r.val by omega)

end Ref

end Cert.KernelIdeal.Chain

end
-- ==== Proof.Final.lean ====
/-
The end of the proof: the staged arguments are the argument arrays, the result array is what the body left in its
staging buffer, and so each device's result is its block of the reference's.
-/
module

public import proofs.«01_k».proof.Proof.Value
public import Idealize.ShloMosaic.Lib.Pipeline.ValueKit.Geometry
public import Idealize.ShloMosaic.Lib.Quiescent

@[expose] public section

noncomputable section

namespace Cert.KernelIdeal.Chain

open Cert.KernelIdeal Cert.KernelIdeal.Gen
open Idealize.ShloMosaic Idealize.SL.Sem
open Idealize.ShloMosaic.TcCoe

variable (m : (ℓ : Loc nD τ sig) → Buf (Elt Ideal) ℓ) (ρ : Dev nD → PrngReg)

/-- The one block of `x` is the array. -/
theorem xstg_eq (c : Dev nD) : xstg (F := Ideal) m ρ c = m ((c : Thread nD τ).loc main_arg0) := by
  have e : ∀ a, win0_0.index t0_0 a * win0_0.size a = 0 := by decide +kernel
  refine funext fun j => congrArg (m ((c : Thread nD τ).loc main_arg0)) (funext fun a => Fin.ext ?_)
  refine (show _ = win0_0.index t0_0 a * win0_0.size a + 1 * (j a).val from rfl).trans ?_
  rw [e a, Nat.zero_add, Nat.one_mul]

/-- The one block of `w` is the array. -/
theorem wstg_eq (c : Dev nD) : wstg (F := Ideal) m ρ c = m ((c : Thread nD τ).loc main_arg1) := by
  have e : ∀ a, win0_1.index t0_0 a * win0_1.size a = 0 := by decide +kernel
  refine funext fun j => congrArg (m ((c : Thread nD τ).loc main_arg1)) (funext fun a => Fin.ext ?_)
  refine (show _ = win0_1.index t0_0 a * win0_1.size a + 1 * (j a).val from rfl).trans ?_
  rw [e a, Nat.zero_add, Nat.one_mul]

/-- The result array ends holding what the body leaves in the staging buffer. -/
theorem finalA_out (c : Dev nD) :
    finalA (F := Ideal) m ρ c (2 : Fin 3) = outV (fun d : Dev nD => m ((d : Thread nD τ).loc main_arg0)) (fun d : Dev nD => m ((d : Thread nD τ).loc main_arg1)) c := by
  have hx : xstg (F := Ideal) m ρ = fun d : Dev nD => m ((d : Thread nD τ).loc main_arg0) := funext (xstg_eq m ρ)
  have hw : wstg (F := Ideal) m ρ = fun d : Dev nD => m ((d : Thread nD τ).loc main_arg1) := funext (wstg_eq m ρ)
  rw [← hx, ← hw]
  exact (dats (F := Ideal) m ρ 0 c).arrAt_eq_of_after_last (2 : Fin 3) t0_0 (by decide +kernel) (outV (xstg m ρ) (wstg m ρ) c) (fun j => rfl)

/-- On memories that hold the blocks of the reference's arguments, the run leaves the blocks of its result. -/
theorem run_value (A : Cert.ReferenceIdeal.S8192x8192.Idx → EReal) (B : Cert.ReferenceIdeal.S8192x4096.Idx → EReal)
    (hA : ∀ c : Dev nD, m ((c : Thread nD τ).loc main_arg0) = Layout.block ⟨2, ![8192, 512]⟩ ⟨2, ![8192, 8192]⟩ 1 16 c A)
    (hB : ∀ c : Dev nD, m ((c : Thread nD τ).loc main_arg1) = Layout.block ⟨2, ![512, 4096]⟩ ⟨2, ![8192, 4096]⟩ 0 16 c B) :
    θ_run (defs (F := Ideal)) (onTc (τ := τ) (main (F := Ideal))) ⟨m, fun _ => 0, ρ⟩ (fun r => ∀ c : Dev nD,
      r.2.mem ((c : Thread nD τ).loc main_v1) = Layout.block ⟨2, ![512, 4096]⟩ ⟨2, ![8192, 4096]⟩ 0 16 c (refR A B)
      ∧ r.2.mem ((c : Thread nD τ).loc main_arg0) = m ((c : Thread nD τ).loc main_arg0)
      ∧ r.2.mem ((c : Thread nD τ).loc main_arg1) = m ((c : Thread nD τ).loc main_arg1)) := by
  have hAf : (fun d : Dev nD => m ((d : Thread nD τ).loc main_arg0)) = fun d => Layout.block ⟨2, ![8192, 512]⟩ ⟨2, ![8192, 8192]⟩ 1 16 d A := funext hA
  have hBf : (fun d : Dev nD => m ((d : Thread nD τ).loc main_arg1)) = fun d => Layout.block ⟨2, ![512, 4096]⟩ ⟨2, ![8192, 4096]⟩ 0 16 d B := funext hB
  have hO (c : Dev nD) : finalA (F := Ideal) m ρ c (2 : Fin 3) = Layout.block ⟨2, ![512, 4096]⟩ ⟨2, ![8192, 4096]⟩ 0 16 c (refR A B) := by
    rw [finalA_out m ρ c, hAf, hBf]
    exact out_eq A B c
  exact (θ_run _ _ _).mono (fun r h c => ⟨(h.1 c (2 : Fin 3)).trans (hO c), (h.1 c (0 : Fin 3)).trans (finalA_x m ρ c), (h.1 c (1 : Fin 3)).trans (finalA_w m ρ c)⟩)
    (run_main (F := Ideal) m ρ)

end Cert.KernelIdeal.Chain

end
-- ==== Proof.lean ====
/-
The claims, assembled.

* `frame_Kernel`, `frame_KernelIdeal`: `run_main` (Proof/KRun.lean, Proof/Run.lean), keeping of the final arrays only
  that the arguments end as they began.
* `frame_ReferenceIdeal`: the reference's run; it has no semaphore.
* `value`: `run_value` (Proof/Final.lean) and the reference's run, with `ref_eq` (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Final
public import Idealize.ShloMosaic.Adequacy
public import Idealize.ShloMosaic.Init

@[expose] public section

noncomputable section

namespace Cert.Proof

open Idealize.ShloMosaic Idealize.SL.Sem Cert.Kernel

/-- The kernel terminates without fault, with its arguments unchanged and every semaphore at zero. -/
theorem frame_Kernel : @quiescent_Kernel Cert.Kernel.Gen.facts := fun m g _ =>
  (θ_run _ _ _).mono (fun _ h => ⟨fun c => ⟨(h.1 c (0 : Fin 3)).trans (Cert.Kernel.Chain.finalA_x m g c),
    (h.1 c (1 : Fin 3)).trans (Cert.Kernel.Chain.finalA_w m g c)⟩, h.2⟩) (Cert.Kernel.Chain.run_main (F := Bits) m g)

/-- The same of the kernel over the extended reals. -/
theorem frame_KernelIdeal : @quiescent_KernelIdeal Cert.KernelIdeal.Gen.facts := fun m g _ =>
  (θ_run _ _ _).mono (fun _ h => ⟨fun c => ⟨(h.1 c (0 : Fin 3)).trans (Cert.KernelIdeal.Chain.finalA_x m g c),
    (h.1 c (1 : Fin 3)).trans (Cert.KernelIdeal.Chain.finalA_w m g c)⟩, h.2⟩) (Cert.KernelIdeal.Chain.run_main (F := Ideal) m g)

/-- The same of the reference. -/
theorem frame_ReferenceIdeal : @quiescent_ReferenceIdeal Cert.ReferenceIdeal.Gen.facts := fun m g _ =>
  (θ_run _ _ _).mono (fun r h => ⟨fun c => ⟨(h c).2.1, (h c).2.2⟩, sem_eq_zero_of_no_sems (by decide) r.2⟩)
    (Cert.ReferenceIdeal.Value.run (F := Ideal) m g)

/-- Each device's result is its block of rows of the reference's result. -/
theorem value : @algebraic_KernelIdeal_ReferenceIdeal Cert.KernelIdeal.Gen.facts Cert.ReferenceIdeal.Gen.facts := fun m g m' g' _ hm =>
  ⟨_, Cert.KernelIdeal.Chain.run_value m g _ _ (fun c => (hm c).1) (fun c => (hm c).2),
    (θ_run _ _ _).mono (fun _ h => ⟨((h 0).1).trans (Cert.KernelIdeal.Chain.ref_eq _ _), (h 0).2.1, (h 0).2.2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_Kernel, frame_KernelIdeal, frame_ReferenceIdeal, trivial, value⟩

end Cert.Proof

end
